-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_vocabulary [hPre_vocabulary : Cert.Pre_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_vocabulary [hPre_vocabulary : Cert.Pre_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_vocabulary [hKernelIdeal : Cert.KernelIdeal.Facts] [hPre_vocabulary : Cert.Pre_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_vocabulary m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_vocabulary [hReferenceIdeal : Cert.ReferenceIdeal.Facts] [hPre_vocabulary : Cert.Pre_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_vocabulary [hKernelIdeal : Cert.KernelIdeal.Facts] [hReferenceIdeal : Cert.ReferenceIdeal.Facts] [hPre_vocabulary : Cert.Pre_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_vocabulary : Cert.Pre_vocabulary.Facts),
    quiescent_Kernel (hKernel := hKernel)
    ∧ quiescent_KernelIdeal (hKernelIdeal := hKernelIdeal)
    ∧ quiescent_KernelIdeal_pre_vocabulary (hKernelIdeal := hKernelIdeal) (hPre_vocabulary := hPre_vocabulary)
    ∧ quiescent_ReferenceIdeal (hReferenceIdeal := hReferenceIdeal)
    ∧ quiescent_ReferenceIdeal_pre_vocabulary (hReferenceIdeal := hReferenceIdeal) (hPre_vocabulary := hPre_vocabulary)
    ∧ preserves_Kernel_KernelIdeal
    ∧ algebraic_KernelIdeal_ReferenceIdeal_pre_vocabulary (hKernelIdeal := hKernelIdeal) (hReferenceIdeal := hReferenceIdeal) (hPre_vocabulary := hPre_vocabulary)
-- ==== Pre_vocabulary.lean ====
abbrev S64x2048x768 : Shape := ⟨3, ![64, 2048, 768]⟩
abbrev S64x2048 : Shape := ⟨2, ![64, 2048]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel

variable [Facts]

def fn {F : FTy → Type} [FloatOps F] (main_arg0 : FVec F S64x2048x768 .f32) (main_arg1 : IVec S64x2048 32) : IVec S_ 1 :=
  let main_c : IVec S_ 32 := constantI S_ 32 0#32
  let main_v0 : IVec S64x2048 32 := broadcastInDim S64x2048 ![] bcast_S_S64x2048 main_c
  let main_v1 : IVec S64x2048 1 := cmpi .sge main_arg1 main_v0
  let main_c_0 : IVec S_ 32 := constantI S_ 32 49408#32
  let main_v2 : IVec S64x2048 32 := broadcastInDim S64x2048 ![] bcast_S_S64x2048 main_c_0
  let main_v3 : IVec S64x2048 1 := cmpi .slt main_arg1 main_v2
  let main_v4 : IVec S64x2048 1 := andi main_v1 main_v3
  let main_c_1 : IVec S_ 1 := constantI S_ 1 1#1
  let main_v5 : IVec S_ 1 := (fun x v => Host.reduce IntOp.andi x v reducesTo_S64x2048_S_d0_1 h_S_) main_v4 main_c_1
  main_v5
-- ==== Kernel.lean ====
abbrev S64x2048x768 : Shape := ⟨3, ![64, 2048, 768]⟩
abbrev S64x2048 : Shape := ⟨2, ![64, 2048]⟩
abbrev S64x768 : Shape := ⟨2, ![64, 768]⟩
abbrev S2048 : Shape := ⟨1, ![2048]⟩
abbrev S_ : Shape := ⟨0, ![]⟩
abbrev S16 : Shape := ⟨1, ![16]⟩
abbrev S1x2048 : Shape := ⟨2, ![1, 2048]⟩
abbrev S1x768 : Shape := ⟨2, ![1, 768]⟩
abbrev S768 : Shape := ⟨1, ![768]⟩
abbrev S1x1x768 : Shape := ⟨3, ![1, 1, 768]⟩

abbrev nBuf : Table → Nat
  | .hbm => 3
  | .local .scVector .vmem => 2
  | _ => 0

abbrev bufTy : (tb : Table) → Fin (nBuf tb) → BufTy
  | .hbm, ⟨0, _⟩ => ⟨S64x2048x768, .f32⟩
  | .hbm, ⟨1, _⟩ => ⟨S64x2048, .i32⟩
  | .hbm, ⟨2, _⟩ => ⟨S64x768, .f32⟩
  | .local .scVector .vmem, ⟨0, _⟩ => ⟨S2048, .i32⟩
  | .local .scVector .vmem, ⟨1, _⟩ => ⟨S2048, .i32⟩
  | _, _ => ⟨S64x2048x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c1_i32 : BitVec 32 := 1#32
  let v4 : BitVec 32 := Scalar.addi v3 c1_i32
  let c0_i32_2 : BitVec 32 := 0#32
  ![v4.toNat, 0]
@[reducible] def k0_t1_loop : Scf.Loop 32 :=
  let c0_i32_6 : BitVec 32 := 0#32
  let c64_i32 : BitVec 32 := 64#32
  let v18 : BitVec 32 := Scalar.addi c0_i32_6 c64_i32
  let c1_i32_7 : BitVec 32 := 1#32
  ⟨c0_i32_6, v18, c1_i32_7⟩
def k0_off3 (k0_t1 : Fin k0_t1_loop.trips) : Fin 1 → Nat :=
  let c0_i32_6 : BitVec 32 := 0#32
  let c1_i32_7 : BitVec 32 := 1#32
  let arg11 : BitVec 32 := Scf.iv c0_i32_6 c1_i32_7 k0_t1
  let c32_i32 : BitVec 32 := 32#32
  let v61 : BitVec 32 := Scalar.muli arg11 c32_i32
  let v62 : Index := Scalar.indexCast v61
  ![v62.toNat]
def k0_off4 (k0_t1 : Fin k0_t1_loop.trips) : Fin 1 → Nat :=
  let c0_i32_6 : BitVec 32 := 0#32
  let c1_i32_7 : BitVec 32 := 1#32
  let arg11 : BitVec 32 := Scf.iv c0_i32_6 c1_i32_7 k0_t1
  let c32_i32 : BitVec 32 := 32#32
  let v61 : BitVec 32 := Scalar.muli arg11 c32_i32
  let c16_i32 : BitVec 32 := 16#32
  let v64 : BitVec 32 := Scalar.addi v61 c16_i32
  let v65 : Index := Scalar.indexCast v64
  ![v65.toNat]
def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32_11 : BitVec 32 := 0#32
  ![v3.toNat, 0]
def k0_off6 (i : grid0.Coords) (v26 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c2047_i32_10 : BitVec 32 := 2047#32
  let c2047_i32 : BitVec 32 := 2047#32
  let v27 : BitVec 32 := Scalar.andi v26 c2047_i32
  let v28 : BitVec 32 := Scalar.subi c2047_i32_10 v27
  let c0_i32_12 : BitVec 32 := 0#32
  ![v3.toNat, v28.toNat, 0]

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c1_i32 : BitVec 32 := 1#32
  let v4 : BitVec 32 := Scalar.addi v3 c1_i32
  let c0_i32_13 : BitVec 32 := 0#32
  ![v4.toNat, 0]
@[reducible] def k0_t2_loop : Scf.Loop 32 :=
  let c0_i32_16 : BitVec 32 := 0#32
  let c64_i32_17 : BitVec 32 := 64#32
  let v38 : BitVec 32 := Scalar.addi c0_i32_16 c64_i32_17
  let c1_i32_18 : BitVec 32 := 1#32
  ⟨c0_i32_16, v38, c1_i32_18⟩
def k0_off8 (k0_t2 : Fin k0_t2_loop.trips) : Fin 1 → Nat :=
  let c0_i32_16 : BitVec 32 := 0#32
  let c1_i32_18 : BitVec 32 := 1#32
  let arg11 : BitVec 32 := Scf.iv c0_i32_16 c1_i32_18 k0_t2
  let c32_i32 : BitVec 32 := 32#32
  let v61 : BitVec 32 := Scalar.muli arg11 c32_i32
  let v62 : Index := Scalar.indexCast v61
  ![v62.toNat]
def k0_off9 (k0_t2 : Fin k0_t2_loop.trips) : Fin 1 → Nat :=
  let c0_i32_16 : BitVec 32 := 0#32
  let c1_i32_18 : BitVec 32 := 1#32
  let arg11 : BitVec 32 := Scf.iv c0_i32_16 c1_i32_18 k0_t2
  let c32_i32 : BitVec 32 := 32#32
  let v61 : BitVec 32 := Scalar.muli arg11 c32_i32
  let c16_i32 : BitVec 32 := 16#32
  let v64 : BitVec 32 := Scalar.addi v61 c16_i32
  let v65 : Index := Scalar.indexCast v64
  ![v65.toNat]
def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c1_i32 : BitVec 32 := 1#32
  let v4 : BitVec 32 := Scalar.addi v3 c1_i32
  let c0_i32_24 : BitVec 32 := 0#32
  ![v4.toNat, 0]
def k0_off11 (i : grid0.Coords) (v46 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c1_i32 : BitVec 32 := 1#32
  let v4 : BitVec 32 := Scalar.addi v3 c1_i32
  let c2047_i32_23 : BitVec 32 := 2047#32
  let c2047_i32_22 : BitVec 32 := 2047#32
  let v47 : BitVec 32 := Scalar.andi v46 c2047_i32_22
  let v48 : BitVec 32 := Scalar.subi c2047_i32_23 v47
  let c0_i32_25 : BitVec 32 := 0#32
  ![v4.toNat, v48.toNat, 0]

def k0_chk2 (i : grid0.Coords) (v46 : BitVec 32) : Prop :=
  (∀ a, (k0_off11 i v46) a + S1x1x768.size a ≤ S64x2048x768.size a)
theorem k0_off11_inb : ∀ (i : grid0.Coords) (v46 : BitVec 32) (k0_hw2 : k0_chk2 i v46), ∀ a, (k0_off11 i v46) a + S1x1x768.size a ≤ S64x2048x768.size a := fun i v46 k0_hw2 => k0_hw2

def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32_26 : BitVec 32 := 0#32
  ![v3.toNat, 0]
def k0_off13 (i : grid0.Coords) (v26 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c2047_i32_10 : BitVec 32 := 2047#32
  let c2047_i32 : BitVec 32 := 2047#32
  let v27 : BitVec 32 := Scalar.andi v26 c2047_i32
  let v28 : BitVec 32 := Scalar.subi c2047_i32_10 v27
  let c0_i32_27 : BitVec 32 := 0#32
  ![v3.toNat, v28.toNat, 0]

def k0_chk1 (i : grid0.Coords) (v26 : BitVec 32) : Prop :=
  (∀ a, (k0_off6 i v26) a + S1x1x768.size a ≤ S64x2048x768.size a) ∧
  (∀ a, (k0_off13 i v26) a + S1x1x768.size a ≤ S64x2048x768.size a)
theorem k0_off6_inb : ∀ (i : grid0.Coords) (v26 : BitVec 32) (k0_hw1 : k0_chk1 i v26), ∀ a, (k0_off6 i v26) a + S1x1x768.size a ≤ S64x2048x768.size a := fun i v26 k0_hw1 => k0_hw1.1
theorem k0_off13_inb : ∀ (i : grid0.Coords) (v26 : BitVec 32) (k0_hw1 : k0_chk1 i v26), ∀ a, (k0_off13 i v26) a + S1x1x768.size a ≤ S64x2048x768.size a := fun i v26 k0_hw1 => k0_hw1.2

def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c1_i32 : BitVec 32 := 1#32
  let v4 : BitVec 32 := Scalar.addi v3 c1_i32
  let c0_i32_28 : BitVec 32 := 0#32
  ![v4.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x2048x768 : Shape := ⟨3, ![64, 2048, 768]⟩
abbrev S64x2048 : Shape := ⟨2, ![64, 2048]⟩
abbrev S_ : Shape := ⟨0, ![]⟩
abbrev S64 : Shape := ⟨1, ![64]⟩
abbrev S64x1x1 : Shape := ⟨3, ![64, 1, 1]⟩
abbrev S1 : Shape := ⟨1, ![1]⟩
abbrev S1x1x1 : Shape := ⟨3, ![1, 1, 1]⟩
abbrev S64x1 : Shape := ⟨2, ![64, 1]⟩
abbrev S64x1x768 : Shape := ⟨3, ![64, 1, 768]⟩
abbrev S64x768 : Shape := ⟨2, ![64, 768]⟩

abbrev nBuf : Space → Nat
  | .hbm => 31
  | .vmem => 0
  | .smem => 0
  | _ => 0

abbrev bufTy : (tb : Table) → Fin (tcTables nBuf tb) → BufTy
  | .hbm, ⟨0, _⟩ => ⟨S64x2048x768, .f32⟩
  | .hbm, ⟨1, _⟩ => ⟨S64x2048, .i32⟩
  | .hbm, ⟨2, _⟩ => ⟨S64x2048, .i32⟩
  | .hbm, ⟨3, _⟩ => ⟨S_, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S64x1x1, .i32⟩
  | .hbm, ⟨8, _⟩ => ⟨S_, .i32⟩
  | .hbm, ⟨9, _⟩ => ⟨S64x1x1, .i32⟩
  | .hbm, ⟨10, _⟩ => ⟨S64x1x1, .i1⟩
  | .hbm, ⟨11, _⟩ => ⟨S_, .i32⟩
  | .hbm, ⟨12, _⟩ => ⟨S64x1x1, .i32⟩
  | .hbm, ⟨13, _⟩ => ⟨S64x1x1, .i32⟩
  | .hbm, ⟨14, _⟩ => ⟨S64x1x1, .i32⟩
  | .hbm, ⟨15, _⟩ => ⟨S1, .i32⟩
  | .hbm, ⟨16, _⟩ => ⟨S_, .i32⟩
  | .hbm, ⟨17, _⟩ => ⟨S64x1x1, .i32⟩
  | .hbm, ⟨18, _⟩ => ⟨S64x1x1, .i1⟩
  | .hbm, ⟨19, _⟩ => ⟨S1x1x1, .i32⟩
  | .hbm, ⟨20, _⟩ => ⟨S64x1x1, .i32⟩
  | .hbm, ⟨21, _⟩ => ⟨S64x1x1, .i1⟩
  | .hbm, ⟨22, _⟩ => ⟨S64x1x1, .i1⟩
  | .hbm, ⟨23, _⟩ => ⟨S_, .i1⟩
  | .hbm, ⟨24, _⟩ => ⟨S64x1, .i1⟩
  | .hbm, ⟨25, _⟩ => ⟨S64x1x768, .f32⟩
  | .hbm, ⟨26, _⟩ => ⟨S64x1x768, .i1⟩
  | .hbm, ⟨27, _⟩ => ⟨S_, .f32⟩
  | .hbm, ⟨28, _⟩ => ⟨S64x1x768, .f32⟩
  | .hbm, ⟨29, _⟩ => ⟨S64x1x768, .f32⟩
  | .hbm, ⟨30, _⟩ => ⟨S64x768, .f32⟩
  | _, _ => ⟨S64x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_c_0 : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v2 : Ref sig .tc := ⟨.hbm, 29, rfl⟩
abbrev main_v3 : Ref sig .tc := ⟨.hbm, 30, rfl⟩

abbrev nD : Nat := 1
abbrev τ : Topo := Topo.v7x

variable {F : FTy → Type} [FloatOps F]
-- ==== Proof.Packed.lean ====
/-
  What the kernel computes from one row of token ids, with no program in it: the packed key of a position, the running
  maximum each lane keeps, the best key, the position it names, and the pooled output.
-/
module

public import Idealize.ShloMosaic.PureOps
public import Idealize.ShloMosaic.Lib.ValueIdx

@[expose] public section

namespace Cert.Proof.Packed

open Idealize.ShloMosaic
open Idealize.ShloMosaic.ValueIdx (ix1 ix2 ix3)

abbrev Lanes : Shape := ⟨1, ![16]⟩
abbrev RowShape : Shape := ⟨1, ![2048]⟩
abbrev TokShape : Shape := ⟨2, ![64, 2048]⟩
abbrev EmbShape : Shape := ⟨3, ![64, 2048, 768]⟩
abbrev OutShape : Shape := ⟨2, ![64, 768]⟩

/-- Word `j` of a row of 2048 words (zero past its end). -/
def word (r : RowShape.Idx → BitVec 32) (j : Nat) : BitVec 32 := if h : j < 2048 then r (ix1 ⟨j, h⟩) else 0#32

/-- The packed key of position `j`: the token id shifted up by eleven bits, plus `2047 - j`. -/
def key (r : RowShape.Idx → BitVec 32) (j : Nat) : BitVec 32 := (word r j <<< 11) + (2047#32 - BitVec.ofNat 32 j)

/-- The largest key after `n` trips in the lane that reads positions `o`, `o + 32`, `o + 64`, …, from the least word. -/
def running (r : RowShape.Idx → BitVec 32) (o : Nat) : Nat → BitVec 32
  | 0 => 2147483648#32
  | n + 1 => IntOp.maxsi (running r o n) (key r (32 * n + o))

/-- The first vector of running maxima: lane `l` reads positions `l`, `l + 32`, …. -/
def lo (r : RowShape.Idx → BitVec 32) (n : Nat) : IVec Lanes 32 := fun l => running r (l 0).val n
/-- The second vector of running maxima: lane `l` reads positions `16 + l`, `48 + l`, …. -/
def hi (r : RowShape.Idx → BitVec 32) (n : Nat) : IVec Lanes 32 := fun l => running r (16 + (l 0).val) n

theorem lane_inb : ∀ a, (![15] : Fin 1 → Nat) a < Lanes.size a := by decide

/-- The largest of the 2048 keys, as the kernel reduces its two vectors: the last lane of a running unsigned maximum with
    the sign bit flipped before and after it. -/
def best (r : RowShape.Idx → BitVec 32) : BitVec 32 :=
  extractAt ![15] (xori (scan .max (xori (maxsi (lo r 64) (hi r 64)) (broadcast Lanes 2147483648#32))) (broadcast Lanes 2147483648#32)) lane_inb

/-- The position a best key names. -/
def posOf (w : BitVec 32) : Nat := (2047#32 - (w &&& 2047#32)).toNat

/-- Whatever the word, its low eleven bits name a position of the row. -/
theorem posOf_lt (w : BitVec 32) : posOf w < 2048 := by
  have h : (w &&& 2047#32).toNat ≤ 2047 := by rw [BitVec.toNat_and]; exact Nat.and_le_right
  unfold posOf
  rw [BitVec.toNat_sub]
  simp only [BitVec.toNat_ofNat]
  omega

/-- The row of token ids of batch `b`. -/
def tokRow (tok : TokShape.Idx → BitVec 32) (b : Fin 64) : RowShape.Idx → BitVec 32 := fun x => tok (ix2 b (x 0))

/-- The position pooled for batch `b`. -/
def pos (tok : TokShape.Idx → BitVec 32) (b : Fin 64) : Fin 2048 := ⟨posOf (best (tokRow tok b)), posOf_lt _⟩

/-- The kernel's result: row `b` is the embedding at the pooled position of batch `b`. -/
def pooled {α : Type} (emb : EmbShape.Idx → α) (tok : TokShape.Idx → BitVec 32) : OutShape.Idx → α :=
  fun y => emb (ix3 (y 0) (pos tok (y 0)) (y 1))

/-! ## One trip of a row's loop -/

/-- The offsets vector of trip `k`, as the kernel computes it: lane `l` holds `2047 - (32 k + l)`. -/
theorem trip_offset (k l : Nat) :
    (2047#32 - BitVec.ofNat 32 k * 32#32) - BitVec.ofNat 32 l = 2047#32 - BitVec.ofNat 32 (32 * k + l) := by
  apply BitVec.eq_of_toNat_eq
  simp only [BitVec.toNat_sub, BitVec.toNat_mul, BitVec.toNat_ofNat]
  omega

theorem trip_offset_hi (k l : Nat) :
    (2047#32 - BitVec.ofNat 32 k * 32#32) - BitVec.ofNat 32 l - 16#32 = 2047#32 - BitVec.ofNat 32 (32 * k + (16 + l)) := by
  apply BitVec.eq_of_toNat_eq
  simp only [BitVec.toNat_sub, BitVec.toNat_mul, BitVec.toNat_ofNat]
  omega

end Cert.Proof.Packed
-- ==== Proof.IdealSetup.lean ====
/-
  The kernel's launch as the SparseCore library sees it: the program's configuration, the ghost state of the handshakes and
  of the copies, the three arrays, and the row of each array that one batch entry reads or writes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Packed

@[expose] public section

noncomputable section

namespace Cert.Proof.IdealRun

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its ghost state -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the program's configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and their rows -/

/-- The embeddings, the token ids and the pooled output, as locations of device `d`. -/
abbrev eLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The elements of batch entry `b` in each array. -/
def eRow (b : Fin 64) : Finset S64x2048x768.Idx := Finset.univ.filter fun x => (x 0).val = b.val
def tRow (b : Fin 64) : Finset S64x2048.Idx := Finset.univ.filter fun x => (x 0).val = b.val
def oRow (b : Fin 64) : Finset S64x768.Idx := Finset.univ.filter fun x => (x 0).val = b.val

theorem mem_eRow {b : Fin 64} {x : S64x2048x768.Idx} : x ∈ eRow b ↔ (x 0).val = b.val := by simp [eRow]
theorem mem_tRow {b : Fin 64} {x : S64x2048.Idx} : x ∈ tRow b ↔ (x 0).val = b.val := by simp [tRow]
theorem mem_oRow {b : Fin 64} {x : S64x768.Idx} : x ∈ oRow b ↔ (x 0).val = b.val := by simp [oRow]

/-- Rows of different batch entries are disjoint, and the 64 rows are the whole array. -/
theorem eRow_disjoint : ∀ i ∈ (Finset.univ : Finset (Fin 64)), ∀ j ∈ (Finset.univ : Finset (Fin 64)), i ≠ j → Disjoint (eRow i) (eRow j) :=
  fun i _ j _ h => Finset.disjoint_left.mpr fun x hi hj => h (Fin.ext ((mem_eRow.mp hi).symm.trans (mem_eRow.mp hj)))
theorem tRow_disjoint : ∀ i ∈ (Finset.univ : Finset (Fin 64)), ∀ j ∈ (Finset.univ : Finset (Fin 64)), i ≠ j → Disjoint (tRow i) (tRow j) :=
  fun i _ j _ h => Finset.disjoint_left.mpr fun x hi hj => h (Fin.ext ((mem_tRow.mp hi).symm.trans (mem_tRow.mp hj)))
theorem oRow_disjoint : ∀ i ∈ (Finset.univ : Finset (Fin 64)), ∀ j ∈ (Finset.univ : Finset (Fin 64)), i ≠ j → Disjoint (oRow i) (oRow j) :=
  fun i _ j _ h => Finset.disjoint_left.mpr fun x hi hj => h (Fin.ext ((mem_oRow.mp hi).symm.trans (mem_oRow.mp hj)))
theorem eRow_cover : (Finset.univ : Finset (Fin 64)).biUnion eRow = Finset.univ :=
  Finset.eq_univ_of_forall fun x => Finset.mem_biUnion.mpr ⟨x 0, Finset.mem_univ _, mem_eRow.mpr rfl⟩
theorem tRow_cover : (Finset.univ : Finset (Fin 64)).biUnion tRow = Finset.univ :=
  Finset.eq_univ_of_forall fun x => Finset.mem_biUnion.mpr ⟨x 0, Finset.mem_univ _, mem_tRow.mpr rfl⟩
theorem oRow_cover : (Finset.univ : Finset (Fin 64)).biUnion oRow = Finset.univ :=
  Finset.eq_univ_of_forall fun x => Finset.mem_biUnion.mpr ⟨x 0, Finset.mem_univ _, mem_oRow.mpr rfl⟩

/-- A whole array held is its 64 rows held. -/
theorem ePts_rows (d : Dev nD) (f : Buf (Elt F) (eLoc d)) :
    (eLoc d ↦{fullShare} f : sProp 𝕄) = bigSep Finset.univ fun i : Fin 64 => eLoc d ↦[eRow i]{fullShare} f := by
  rw [← pointsTo_biUnion Finset.univ (ℓ := eLoc d) eRow eRow_disjoint, eRow_cover]
theorem tPts_rows (d : Dev nD) (f : Buf (Elt F) (tLoc d)) :
    (tLoc d ↦{fullShare} f : sProp 𝕄) = bigSep Finset.univ fun i : Fin 64 => tLoc d ↦[tRow i]{fullShare} f := by
  rw [← pointsTo_biUnion Finset.univ (ℓ := tLoc d) tRow tRow_disjoint, tRow_cover]
theorem oPts_rows (d : Dev nD) (f : Buf (Elt F) (oLoc d)) :
    (oLoc d ↦{fullShare} f : sProp 𝕄) = bigSep Finset.univ fun i : Fin 64 => oLoc d ↦[oRow i]{fullShare} f := by
  rw [← pointsTo_biUnion Finset.univ (ℓ := oLoc d) oRow oRow_disjoint, oRow_cover]

/-! ## Which rows a tile works on -/

/-- The two batch entries of the tile of SparseCore `c` and subcore `s`. -/
def fstRow (c : Fin 2) (s : Fin 16) : Fin 64 := ⟨4 * s.val + 2 * c.val, by omega⟩
def sndRow (c : Fin 2) (s : Fin 16) : Fin 64 := ⟨4 * s.val + 2 * c.val + 1, by omega⟩

/-- The 64 batch entries, counted tile by tile. -/
def rowsEquiv : (Fin 2 × Fin 16) × Fin 2 ≃ Fin 64 where
  toFun p := ⟨4 * p.1.2.val + 2 * p.1.1.val + p.2.val, by omega⟩
  invFun b := ((⟨b.val / 2 % 2, by omega⟩, ⟨b.val / 4, by omega⟩), ⟨b.val % 2, by omega⟩)
  left_inv := by
    rintro ⟨⟨c, s⟩, e⟩
    have := c.isLt; have := s.isLt; have := e.isLt
    refine Prod.ext (Prod.ext (Fin.ext ?_) (Fin.ext ?_)) (Fin.ext ?_) <;> show _ = _ <;> simp only <;> omega
  right_inv b := by
    have := b.isLt
    refine Fin.ext ?_
    show _ = _
    simp only; omega

/-- A family over the 64 rows is the tiles' pairs, SparseCore by SparseCore. -/
theorem bigSep_rows {M : Type} [URA M] (Φ : Fin 64 → sProp M) :
    (bigSep Finset.univ Φ : sProp M)
      = bigSep Finset.univ fun c : Fin 2 => bigSep Finset.univ fun s : Fin 16 => iprop(Φ (fstRow c s) ∗ Φ (sndRow c s)) := by
  rw [bigSep_univ_equiv rowsEquiv Φ, bigSep_univ_prod, bigSep_univ_prod]
  refine bigSep_congr fun c _ => bigSep_congr fun s _ => ?_
  rw [bigSep_univ_two]; rfl

end Cert.Proof.IdealRun

end
-- ==== Proof.IdealViews.lean ====
/-
  The windows one tile's body copies through: which elements of the arrays each one is, and what a copy through it moves. Then the
  values of one loop trip: each vector of running maxima advances by the thirty-two positions the trip reads.
-/
module

public import proofs.«01_k».proof.Proof.IdealSetup

@[expose] public section

noncomputable section

namespace Cert.Proof.IdealRun

open Cert.KernelIdeal Cert.KernelIdeal.Gen

open Idealize.ShloMosaic
open Idealize.ShloMosaic.ValueIdx (ix1 ix2 ix3)
open Idealize.SL Idealize.SL.RA Idealize.SL.BI
open Cert.Proof.Packed

variable {F : FTy → Type}

local notation "eV" => (Memref.whole Cert.KernelIdeal.main_arg0_scv : Memref Cert.KernelIdeal.sig Kind.scVector Space.hbm Cert.KernelIdeal.S64x2048x768 EltTy.f32)
local notation "tV" => (Memref.whole Cert.KernelIdeal.main_arg1_scv : Memref Cert.KernelIdeal.sig Kind.scVector Space.hbm Cert.KernelIdeal.S64x2048 EltTy.i32)
local notation "oV" => (Memref.whole Cert.KernelIdeal.main_v0_scv : Memref Cert.KernelIdeal.sig Kind.scVector Space.hbm Cert.KernelIdeal.S64x768 EltTy.f32)
local notation "sA" => (Memref.whole Cert.KernelIdeal.cc0_scratch0 : Memref Cert.KernelIdeal.sig Kind.scVector Space.vmem Cert.KernelIdeal.S2048 EltTy.i32)
local notation "sB" => (Memref.whole Cert.KernelIdeal.cc0_scratch1 : Memref Cert.KernelIdeal.sig Kind.scVector Space.vmem Cert.KernelIdeal.S2048 EltTy.i32)

/-! ## The rows of a tile -/

/-- The SparseCore and the subcore of a tile, and its two batch entries. -/
abbrev cL (L : grid0.Coords) : Fin 2 := Fin.cast rfl (L 0)
abbrev jL (L : grid0.Coords) : Fin 16 := Fin.cast rfl (L 1)
abbrev rowA (L : grid0.Coords) : Fin 64 := fstRow (cL L) (jL L)
abbrev rowB (L : grid0.Coords) : Fin 64 := sndRow (cL L) (jL L)

/-! ## The side conditions of the computed offsets -/

/-- The window of the embeddings starts at the tile's batch entry and the position its best key names. -/
theorem off6_eq (L : grid0.Coords) (w : BitVec 32) : k0_off6 L w = ![4 * (L 1).val + 2 * (L 0).val, posOf w, 0] := by
  funext a
  match a with
  | 0 => exact congrFun (k0_off12_eq L) 0
  | 1 => rfl
  | 2 => rfl
theorem off13_eq (L : grid0.Coords) (w : BitVec 32) : k0_off13 L w = ![4 * (L 1).val + 2 * (L 0).val, posOf w, 0] := off6_eq L w
theorem off11_eq (L : grid0.Coords) (w : BitVec 32) : k0_off11 L w = ![4 * (L 1).val + 2 * (L 0).val + 1, posOf w, 0] := by
  funext a
  match a with
  | 0 => exact congrFun (k0_off14_eq L) 0
  | 1 => rfl
  | 2 => rfl

theorem cL_lt (L : grid0.Coords) : (L 0).val < 2 := (L 0).isLt
theorem jL_lt (L : grid0.Coords) : (L 1).val < 16 := (L 1).isLt

/-- A window of one embedding at any batch entry of the tile and any named position lies in the array. -/
theorem window_inb (b p : Nat) (hb : b < 64) (hp : p < 2048) :
    ∀ a, (![b, p, 0] : Fin 3 → Nat) a + S1x1x768.size a ≤ S64x2048x768.size a := by
  intro a
  match a with
  | 0 => show b + 1 ≤ 64; omega
  | 1 => show p + 1 ≤ 2048; omega
  | 2 => show 0 + 768 ≤ 768; omega

/-- Both conditions the body assumes hold of every word. -/
theorem chk1_all (L : grid0.Coords) (w : BitVec 32) : k0_chk1 L w := by
  have := cL_lt L; have := jL_lt L; have := posOf_lt w
  refine ⟨?_, ?_⟩
  · rw [off6_eq]; exact window_inb _ _ (by omega) (by omega)
  · rw [off13_eq]; exact window_inb _ _ (by omega) (by omega)
theorem chk2_all (L : grid0.Coords) (w : BitVec 32) : k0_chk2 L w := by
  have := cL_lt L; have := jL_lt L; have := posOf_lt w
  show ∀ a, _
  rw [off11_eq]; exact window_inb _ _ (by omega) (by omega)

/-! ## The windows, as the body spells them -/

/-- A row of the token ids, a row of the output, one embedding of each of the tile's batch entries. -/
abbrev tA (L : grid0.Coords) : Memref sig .scVector .hbm S2048 .i32 :=
  ((tV).slice (Rect.unit (s := S64x2048) (k0_off1 L) S1x2048.size (k0_off1_inb L)) (fun _ => rfl)).squeeze S2048 squeezes_S1x2048_S2048
abbrev tB (L : grid0.Coords) : Memref sig .scVector .hbm S2048 .i32 :=
  ((tV).slice (Rect.unit (s := S64x2048) (k0_off2 L) S1x2048.size (k0_off2_inb L)) (fun _ => rfl)).squeeze S2048 squeezes_S1x2048_S2048
abbrev oA (L : grid0.Coords) : Memref sig .scVector .hbm S768 .f32 :=
  ((oV).slice (Rect.unit (s := S64x768) (k0_off5 L) S1x768.size (k0_off5_inb L)) (fun _ => rfl)).squeeze S768 squeezes_S1x768_S768
abbrev oB (L : grid0.Coords) : Memref sig .scVector .hbm S768 .f32 :=
  ((oV).slice (Rect.unit (s := S64x768) (k0_off10 L) S1x768.size (k0_off10_inb L)) (fun _ => rfl)).squeeze S768 squeezes_S1x768_S768
abbrev eA (L : grid0.Coords) (w : BitVec 32) (h : k0_chk1 L w) : Memref sig .scVector .hbm S768 .f32 :=
  ((eV).slice (Rect.unit (s := S64x2048x768) (k0_off6 L w) S1x1x768.size (k0_off6_inb L w h)) (fun _ => rfl)).squeeze S768 squeezes_S1x1x768_S768
abbrev eB (L : grid0.Coords) (w : BitVec 32) (h : k0_chk2 L w) : Memref sig .scVector .hbm S768 .f32 :=
  ((eV).slice (Rect.unit (s := S64x2048x768) (k0_off11 L w) S1x1x768.size (k0_off11_inb L w h)) (fun _ => rfl)).squeeze S768 squeezes_S1x1x768_S768

/-! ## Which element of the array a window's element is -/

/-- An index of the row behind two coordinates of size one. -/
theorem reshape_row3 (h : (⟨1, ![768]⟩ : Shape).numel = (⟨3, ![1, 1, 768]⟩ : Shape).numel) (x : (⟨1, ![768]⟩ : Shape).Idx) :
    Shape.reshapeEquiv h x = ix3 (⟨0, Nat.one_pos⟩ : Fin 1) (⟨0, Nat.one_pos⟩ : Fin 1) (⟨(x 0).val, (x 0).isLt⟩ : Fin 768) :=
  Shape.reshapeEquiv_eq_of_rowMajor h (by
    rw [Shape.rowMajor_val_three, Shape.rowMajor_val_one]
    show (0 * 1 + 0) * 768 + (x 0).val = (x 0).val
    omega)

theorem emb_tA (L : grid0.Coords) (x : S2048.Idx) : (tA L).view.emb x = ix2 (rowA L) (x 0) := by
  show (Rect.unit (s := S64x2048) (k0_off1 L) S1x2048.size (k0_off1_inb L)).emb (Shape.reshapeEquiv _ x) = _
  rw [Shape.reshapeEquiv_cons_one]
  funext a; apply Fin.ext
  match a with
  | 0 => show k0_off1 L 0 + 1 * 0 = _; rw [k0_off1_eq]; rfl
  | 1 => show k0_off1 L 1 + 1 * (x 0).val = (x 0).val; rw [k0_off1_eq]; show 0 + 1 * (x 0).val = _; omega
theorem emb_tB (L : grid0.Coords) (x : S2048.Idx) : (tB L).view.emb x = ix2 (rowB L) (x 0) := by
  show (Rect.unit (s := S64x2048) (k0_off2 L) S1x2048.size (k0_off2_inb L)).emb (Shape.reshapeEquiv _ x) = _
  rw [Shape.reshapeEquiv_cons_one]
  funext a; apply Fin.ext
  match a with
  | 0 => show k0_off2 L 0 + 1 * 0 = _; rw [k0_off2_eq]; rfl
  | 1 => show k0_off2 L 1 + 1 * (x 0).val = (x 0).val; rw [k0_off2_eq]; show 0 + 1 * (x 0).val = _; omega
theorem emb_oA (L : grid0.Coords) (x : S768.Idx) : (oA L).view.emb x = ix2 (rowA L) (x 0) := by
  show (Rect.unit (s := S64x768) (k0_off5 L) S1x768.size (k0_off5_inb L)).emb (Shape.reshapeEquiv _ x) = _
  rw [Shape.reshapeEquiv_cons_one]
  funext a; apply Fin.ext
  match a with
  | 0 => show k0_off5 L 0 + 1 * 0 = _; rw [k0_off5_eq]; rfl
  | 1 => show k0_off5 L 1 + 1 * (x 0).val = (x 0).val; rw [k0_off5_eq]; show 0 + 1 * (x 0).val = _; omega
theorem emb_oB (L : grid0.Coords) (x : S768.Idx) : (oB L).view.emb x = ix2 (rowB L) (x 0) := by
  show (Rect.unit (s := S64x768) (k0_off10 L) S1x768.size (k0_off10_inb L)).emb (Shape.reshapeEquiv _ x) = _
  rw [Shape.reshapeEquiv_cons_one]
  funext a; apply Fin.ext
  match a with
  | 0 => show k0_off10 L 0 + 1 * 0 = _; rw [k0_off10_eq]; rfl
  | 1 => show k0_off10 L 1 + 1 * (x 0).val = (x 0).val; rw [k0_off10_eq]; show 0 + 1 * (x 0).val = _; omega
theorem emb_eA (L : grid0.Coords) (w : BitVec 32) (h : k0_chk1 L w) (x : S768.Idx) :
    (eA L w h).view.emb x = ix3 (rowA L) ⟨posOf w, posOf_lt w⟩ (x 0) := by
  show (Rect.unit (s := S64x2048x768) (k0_off6 L w) S1x1x768.size (k0_off6_inb L w h)).emb (Shape.reshapeEquiv _ x) = _
  rw [reshape_row3]
  funext a; apply Fin.ext
  match a with
  | 0 => show k0_off6 L w 0 + 1 * 0 = _; rw [off6_eq]; rfl
  | 1 => show k0_off6 L w 1 + 1 * 0 = _; rw [off6_eq]; rfl
  | 2 => show k0_off6 L w 2 + 1 * (x 0).val = (x 0).val; rw [off6_eq]; show 0 + 1 * (x 0).val = _; omega
theorem emb_eB (L : grid0.Coords) (w : BitVec 32) (h : k0_chk2 L w) (x : S768.Idx) :
    (eB L w h).view.emb x = ix3 (rowB L) ⟨posOf w, posOf_lt w⟩ (x 0) := by
  show (Rect.unit (s := S64x2048x768) (k0_off11 L w) S1x1x768.size (k0_off11_inb L w h)).emb (Shape.reshapeEquiv _ x) = _
  rw [reshape_row3]
  funext a; apply Fin.ext
  match a with
  | 0 => show k0_off11 L w 0 + 1 * 0 = _; rw [off11_eq]; rfl
  | 1 => show k0_off11 L w 1 + 1 * 0 = _; rw [off11_eq]; rfl
  | 2 => show k0_off11 L w 2 + 1 * (x 0).val = (x 0).val; rw [off11_eq]; show 0 + 1 * (x 0).val = _; omega

/-! ## Which elements a window is: the row of its batch entry, or within it -/

theorem set_tA (L : grid0.Coords) : (tA L).view.set = tRow (rowA L) := by
  ext i
  refine Iff.trans ?_ mem_tRow.symm
  constructor
  · intro h; obtain ⟨x, -, rfl⟩ := Finset.mem_map.mp h; rw [emb_tA]
  · intro h
    refine Finset.mem_map.mpr ⟨ix1 (i 1), Finset.mem_univ _, ?_⟩
    rw [emb_tA]; funext a
    match a with
    | 0 => exact Fin.ext h.symm
    | 1 => rfl
theorem set_tB (L : grid0.Coords) : (tB L).view.set = tRow (rowB L) := by
  ext i
  refine Iff.trans ?_ mem_tRow.symm
  constructor
  · intro h; obtain ⟨x, -, rfl⟩ := Finset.mem_map.mp h; rw [emb_tB]
  · intro h
    refine Finset.mem_map.mpr ⟨ix1 (i 1), Finset.mem_univ _, ?_⟩
    rw [emb_tB]; funext a
    match a with
    | 0 => exact Fin.ext h.symm
    | 1 => rfl
theorem set_oA (L : grid0.Coords) : (oA L).view.set = oRow (rowA L) := by
  ext i
  refine Iff.trans ?_ mem_oRow.symm
  constructor
  · intro h; obtain ⟨x, -, rfl⟩ := Finset.mem_map.mp h; rw [emb_oA]
  · intro h
    refine Finset.mem_map.mpr ⟨ix1 (i 1), Finset.mem_univ _, ?_⟩
    rw [emb_oA]; funext a
    match a with
    | 0 => exact Fin.ext h.symm
    | 1 => rfl
theorem set_oB (L : grid0.Coords) : (oB L).view.set = oRow (rowB L) := by
  ext i
  refine Iff.trans ?_ mem_oRow.symm
  constructor
  · intro h; obtain ⟨x, -, rfl⟩ := Finset.mem_map.mp h; rw [emb_oB]
  · intro h
    refine Finset.mem_map.mpr ⟨ix1 (i 1), Finset.mem_univ _, ?_⟩
    rw [emb_oB]; funext a
    match a with
    | 0 => exact Fin.ext h.symm
    | 1 => rfl
theorem set_eA (L : grid0.Coords) (w : BitVec 32) (h : k0_chk1 L w) : (eA L w h).view.set ⊆ eRow (rowA L) := by
  intro i hi
  obtain ⟨x, -, rfl⟩ := Finset.mem_map.mp hi
  refine mem_eRow.mpr ?_
  rw [emb_eA]
theorem set_eB (L : grid0.Coords) (w : BitVec 32) (h : k0_chk2 L w) : (eB L w h).view.set ⊆ eRow (rowB L) := by
  intro i hi
  obtain ⟨x, -, rfl⟩ := Finset.mem_map.mp hi
  refine mem_eRow.mpr ?_
  rw [emb_eB]

/-! ## What a copy moves -/

/-- The token-id copies leave the batch entry's row in the scratch. -/
theorem fetchA (L : grid0.Coords) (fd : S2048.Idx → BitVec 32) (f : S64x2048.Idx → BitVec 32) :
    (sA).view.write (Elt F) fd (ReadAs.same.apply ((tA L).view.read (Elt F) f)) Finset.univ = tokRow f (rowA L) := by
  refine (View.write_whole_univ (Val := Elt F) cc0_scratch0 fd _).trans ?_
  funext x
  show f ((tA L).view.emb x) = _
  rw [emb_tA]; rfl
theorem fetchB (L : grid0.Coords) (fd : S2048.Idx → BitVec 32) (f : S64x2048.Idx → BitVec 32) :
    (sB).view.write (Elt F) fd (ReadAs.same.apply ((tB L).view.read (Elt F) f)) Finset.univ = tokRow f (rowB L) := by
  refine (View.write_whole_univ (Val := Elt F) cc0_scratch1 fd _).trans ?_
  funext x
  show f ((tB L).view.emb x) = _
  rw [emb_tB]; rfl

/-- An output row written with the embedding at the position the best key names is the pooled row, and such is the row an embedding
    copy reads. -/
theorem storeA (L : grid0.Coords) (tok : S64x2048.Idx → BitVec 32) (fd : S64x768.Idx → Elt F .f32) (f : S64x2048x768.Idx → Elt F .f32)
    (p : S768.Idx → Elt F .f32) (hp : ∀ x, p x = f (ix3 (rowA L) (pos tok (rowA L)) (x 0))) :
    ∀ i ∈ oRow (rowA L), (oA L).view.writes (Elt F) fd [⟨Rect.whole S768, p⟩] i = pooled f tok i := by
  intro i hi
  rw [← set_oA L] at hi
  obtain ⟨x, -, rfl⟩ := Finset.mem_map.mp hi
  have h := congrFun (View.read_writes_whole (Val := Elt F) (oA L).view fd p) x
  refine (show (oA L).view.writes (Elt F) fd [⟨Rect.whole S768, p⟩] ((oA L).view.emb x) = p x from h).trans ((hp x).trans ?_)
  rw [emb_oA]; rfl
theorem readA (L : grid0.Coords) (tok : S64x2048.Idx → BitVec 32) (h : k0_chk1 L (best (tokRow tok (rowA L))))
    (f : S64x2048x768.Idx → Elt F .f32) (x : S768.Idx) :
    (ReadAs.same.apply ((eA L (best (tokRow tok (rowA L))) h).view.read (Elt F) f) : S768.Idx → Elt F .f32) x
      = f (ix3 (rowA L) (pos tok (rowA L)) (x 0)) := by
  show f ((eA L _ h).view.emb x) = _
  rw [emb_eA]; rfl
theorem storeB (L : grid0.Coords) (tok : S64x2048.Idx → BitVec 32) (fd : S64x768.Idx → Elt F .f32) (f : S64x2048x768.Idx → Elt F .f32)
    (p : S768.Idx → Elt F .f32) (hp : ∀ x, p x = f (ix3 (rowB L) (pos tok (rowB L)) (x 0))) :
    ∀ i ∈ oRow (rowB L), (oB L).view.writes (Elt F) fd [⟨Rect.whole S768, p⟩] i = pooled f tok i := by
  intro i hi
  rw [← set_oB L] at hi
  obtain ⟨x, -, rfl⟩ := Finset.mem_map.mp hi
  have h := congrFun (View.read_writes_whole (Val := Elt F) (oB L).view fd p) x
  refine (show (oB L).view.writes (Elt F) fd [⟨Rect.whole S768, p⟩] ((oB L).view.emb x) = p x from h).trans ((hp x).trans ?_)
  rw [emb_oB]; rfl
theorem readB (L : grid0.Coords) (tok : S64x2048.Idx → BitVec 32) (h : k0_chk2 L (best (tokRow tok (rowB L))))
    (f : S64x2048x768.Idx → Elt F .f32) (x : S768.Idx) :
    (ReadAs.same.apply ((eB L (best (tokRow tok (rowB L))) h).view.read (Elt F) f) : S768.Idx → Elt F .f32) x
      = f (ix3 (rowB L) (pos tok (rowB L)) (x 0)) := by
  show f ((eB L _ h).view.emb x) = _
  rw [emb_eB]; rfl

/-! ## One trip of each loop -/

theorem iv1 : ∀ k : Fin k0_t1_loop.trips, Scf.iv 0#32 1#32 k = BitVec.ofNat 32 k.val := by decide +kernel
theorem iv2 : ∀ k : Fin k0_t2_loop.trips, Scf.iv 0#32 1#32 k = BitVec.ofNat 32 k.val := by decide +kernel
theorem trip1_lt (k : Fin k0_t1_loop.trips) : k.val < 64 := k.isLt
theorem trip2_lt (k : Fin k0_t2_loop.trips) : k.val < 64 := k.isLt

/-- Lane `l` of the iota is `l`. -/
theorem iota_lane (l : S16.Idx) : iota .scVector S16 32 [0] iota_S16_d0_w32_scVector l = BitVec.ofNat 32 (l 0).val := by
  show BitVec.ofNat 32 (0 * 16 + (l 0).val) = _
  rw [Nat.zero_mul, Nat.zero_add]

/-- The words a trip loads: lane `l` of the first load is word `32 k + l` of the row, of the second word `32 k + 16 + l`. -/
theorem load1_lo (k : Fin k0_t1_loop.trips) (r : S2048.Idx → BitVec 32) (l : S16.Idx) :
    (sA).view.readAt (Elt F) (Rect.unit (s := S2048) (k0_off3 k) S16.size (k0_off3_inb k)).toLoadRect r l = word r (32 * k.val + (l 0).val) := by
  have hk := trip1_lt k; have hl : (l 0).val < 16 := (l 0).isLt
  rw [word, dif_pos (by omega)]
  show r _ = r _
  congr 1; funext a; apply Fin.ext
  match a with
  | 0 => show k0_off3 k 0 + 1 * (l 0).val = _; rw [k0_off3_eq]; show 32 * k.val + 1 * (l 0).val = 32 * k.val + (l 0).val; rw [Nat.one_mul]
theorem load1_hi (k : Fin k0_t1_loop.trips) (r : S2048.Idx → BitVec 32) (l : S16.Idx) :
    (sA).view.readAt (Elt F) (Rect.unit (s := S2048) (k0_off4 k) S16.size (k0_off4_inb k)).toLoadRect r l = word r (32 * k.val + (16 + (l 0).val)) := by
  have hk := trip1_lt k; have hl : (l 0).val < 16 := (l 0).isLt
  rw [word, dif_pos (by omega)]
  show r _ = r _
  congr 1; funext a; apply Fin.ext
  match a with
  | 0 => show k0_off4 k 0 + 1 * (l 0).val = _; rw [k0_off4_eq]; show 32 * k.val + 16 + 1 * (l 0).val = 32 * k.val + (16 + (l 0).val); omega
theorem load2_lo (k : Fin k0_t2_loop.trips) (r : S2048.Idx → BitVec 32) (l : S16.Idx) :
    (sB).view.readAt (Elt F) (Rect.unit (s := S2048) (k0_off8 k) S16.size (k0_off8_inb k)).toLoadRect r l = word r (32 * k.val + (l 0).val) := by
  have hk := trip2_lt k; have hl : (l 0).val < 16 := (l 0).isLt
  rw [word, dif_pos (by omega)]
  show r _ = r _
  congr 1; funext a; apply Fin.ext
  match a with
  | 0 => show k0_off8 k 0 + 1 * (l 0).val = _; rw [k0_off8_eq]; show 32 * k.val + 1 * (l 0).val = 32 * k.val + (l 0).val; rw [Nat.one_mul]
theorem load2_hi (k : Fin k0_t2_loop.trips) (r : S2048.Idx → BitVec 32) (l : S16.Idx) :
    (sB).view.readAt (Elt F) (Rect.unit (s := S2048) (k0_off9 k) S16.size (k0_off9_inb k)).toLoadRect r l = word r (32 * k.val + (16 + (l 0).val)) := by
  have hk := trip2_lt k; have hl : (l 0).val < 16 := (l 0).isLt
  rw [word, dif_pos (by omega)]
  show r _ = r _
  congr 1; funext a; apply Fin.ext
  match a with
  | 0 => show k0_off9 k 0 + 1 * (l 0).val = _; rw [k0_off9_eq]; show 32 * k.val + 16 + 1 * (l 0).val = 32 * k.val + (16 + (l 0).val); omega

/-- The offsets vector of a trip, lane by lane. -/
theorem pay7_lane (k : Fin k0_t1_loop.trips) (l : S16.Idx) :
    k0_pay7 k l = (2047#32 - BitVec.ofNat 32 k.val * 32#32) - BitVec.ofNat 32 (l 0).val := by
  show (2047#32 - Scf.iv 0#32 1#32 k * 32#32) - iota .scVector S16 32 [0] iota_S16_d0_w32_scVector l = _
  rw [iv1, iota_lane]
theorem pay2_lane (k : Fin k0_t2_loop.trips) (l : S16.Idx) :
    k0_pay2 (iota .scVector S16 32 [0] iota_S16_d0_w32_scVector) k l = (2047#32 - BitVec.ofNat 32 k.val * 32#32) - BitVec.ofNat 32 (l 0).val := by
  show (2047#32 - Scf.iv 0#32 1#32 k * 32#32) - iota .scVector S16 32 [0] iota_S16_d0_w32_scVector l = _
  rw [iv2, iota_lane]

/-- A trip of the first row's loop advances both vectors of running maxima by one. -/
theorem trip1_lo (k : Fin k0_t1_loop.trips) (r : S2048.Idx → BitVec 32) :
    k0_pay8 (F := F) k (lo r k.val)
      ((sA).view.readAt (Elt F) (Rect.unit (s := S2048) (k0_off3 k) S16.size (k0_off3_inb k)).toLoadRect r) = lo r (k.val + 1) := by
  funext l
  show IntOp.maxsi (running r (l 0).val k.val) (_ <<< 11 + k0_pay7 k l) = IntOp.maxsi _ (key r (32 * k.val + (l 0).val))
  rw [load1_lo, pay7_lane, trip_offset]; rfl
theorem trip1_hi (k : Fin k0_t1_loop.trips) (r : S2048.Idx → BitVec 32) :
    k0_pay9 (F := F) k (hi r k.val)
      ((sA).view.readAt (Elt F) (Rect.unit (s := S2048) (k0_off4 k) S16.size (k0_off4_inb k)).toLoadRect r) = hi r (k.val + 1) := by
  funext l
  show IntOp.maxsi (running r (16 + (l 0).val) k.val) (_ <<< 11 + (k0_pay7 k l - 16#32)) = IntOp.maxsi _ (key r (32 * k.val + (16 + (l 0).val)))
  rw [load1_hi, pay7_lane, trip_offset_hi]; rfl

/-- A trip of the second row's loop likewise. -/
theorem trip2_lo (k : Fin k0_t2_loop.trips) (r : S2048.Idx → BitVec 32) :
    k0_pay3 (F := F) (iota .scVector S16 32 [0] iota_S16_d0_w32_scVector) k (lo r k.val)
      ((sB).view.readAt (Elt F) (Rect.unit (s := S2048) (k0_off8 k) S16.size (k0_off8_inb k)).toLoadRect r) = lo r (k.val + 1) := by
  funext l
  show IntOp.maxsi (running r (l 0).val k.val) (_ <<< 11 + k0_pay2 _ k l) = IntOp.maxsi _ (key r (32 * k.val + (l 0).val))
  rw [load2_lo, pay2_lane, trip_offset]; rfl
theorem trip2_hi (k : Fin k0_t2_loop.trips) (r : S2048.Idx → BitVec 32) :
    k0_pay4 (F := F) (iota .scVector S16 32 [0] iota_S16_d0_w32_scVector) k (hi r k.val)
      ((sB).view.readAt (Elt F) (Rect.unit (s := S2048) (k0_off9 k) S16.size (k0_off9_inb k)).toLoadRect r) = hi r (k.val + 1) := by
  funext l
  show IntOp.maxsi (running r (16 + (l 0).val) k.val) (_ <<< 11 + (k0_pay2 _ k l - 16#32)) = IntOp.maxsi _ (key r (32 * k.val + (16 + (l 0).val)))
  rw [load2_hi, pay2_lane, trip_offset_hi]; rfl

/-- Both loops start at the least word, and both reductions are the best key of the row. -/
theorem start1 (r : S2048.Idx → BitVec 32) : (k0_pay6, k0_pay6) = (lo r 0, hi r 0) := rfl
theorem start2 (r : S2048.Idx → BitVec 32) : (k0_pay1, k0_pay1) = (lo r 0, hi r 0) := rfl
theorem best1 (r : S2048.Idx → BitVec 32) : extractAt ![15] (k0_pay10 (lo r 64) (hi r 64)) inpos_S16_p15 = best r := rfl
theorem best2 (r : S2048.Idx → BitVec 32) : extractAt ![15] (k0_pay5 (lo r 64) (hi r 64)) inpos_S16_p15 = best r := rfl

end Cert.Proof.IdealRun

end
-- ==== Proof.IdealTile.lean ====
/-
  One tile's body, at a symbolic SparseCore and subcore: it fetches its two rows of token ids, finds the best key of each, and copies
  the embedding each best key names to the output row of its batch entry. What it leaves there is the pooled row.
-/
module

public import proofs.«01_k».proof.Proof.IdealViews

@[expose] public section

noncomputable section

namespace Cert.Proof.IdealRun

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Packed

variable {F : FTy → Type}

local notation "𝕄" => MT nD τ sig (HIx 1) (Elt F) ℕ UU ℕ

local notation "eV" => (Memref.whole Cert.KernelIdeal.main_arg0_scv : Memref Cert.KernelIdeal.sig Kind.scVector Space.hbm Cert.KernelIdeal.S64x2048x768 EltTy.f32)
local notation "tV" => (Memref.whole Cert.KernelIdeal.main_arg1_scv : Memref Cert.KernelIdeal.sig Kind.scVector Space.hbm Cert.KernelIdeal.S64x2048 EltTy.i32)
local notation "oV" => (Memref.whole Cert.KernelIdeal.main_v0_scv : Memref Cert.KernelIdeal.sig Kind.scVector Space.hbm Cert.KernelIdeal.S64x768 EltTy.f32)
local notation "sA" => (Memref.whole Cert.KernelIdeal.cc0_scratch0 : Memref Cert.KernelIdeal.sig Kind.scVector Space.vmem Cert.KernelIdeal.S2048 EltTy.i32)
local notation "sB" => (Memref.whole Cert.KernelIdeal.cc0_scratch1 : Memref Cert.KernelIdeal.sig Kind.scVector Space.vmem Cert.KernelIdeal.S2048 EltTy.i32)

variable (m : (ℓ : Loc nD τ sig) → Buf (Elt F) ℓ)

/-! ## What a tile is handed and what it hands back -/

/-- The pooled output of the arrays device `d` holds at launch. -/
abbrev G (d : Dev nD) : Buf (Elt F) (oLoc d) := pooled (α := Elt F .f32) (m (eLoc d)) (m (tLoc d))

/-- Batch entry `b`'s rows of the three arrays: inputs as launched, the output at contents `f`. -/
abbrev rowPts (d : Dev nD) (f : Buf (Elt F) (oLoc d)) (b : Fin 64) : sProp 𝕄 :=
  iprop((eLoc d ↦[eRow b]{fullShare} m (eLoc d)) ∗ (tLoc d ↦[tRow b]{fullShare} m (tLoc d)) ∗ oLoc d ↦[oRow b]{fullShare} f)

/-- The rows of the tile of SparseCore `c` and subcore `s`. -/
abbrev tilePts (d : Dev nD) (f : Buf (Elt F) (oLoc d)) (c : Fin 2) (s : Fin 16) : sProp 𝕄 :=
  iprop(rowPts m d f (fstRow c s) ∗ rowPts m d f (sndRow c s))

section Tile

variable (d : Dev nD) (L : grid0.Coords)

abbrev cV (L : grid0.Coords) : Fin τ.nSC := (L 0).castLE hcore0
abbrev jV (L : grid0.Coords) : Fin τ.nSub := (L 1).castLE hsub0

/-! ## The pieces in the body's spelling -/

theorem pts_tA (f : Buf (Elt F) (tLoc d)) :
    ((tA L).view.loc (V d (cV L) (jV L)) ↦[(tA L).view.set]{fullShare} f : sProp 𝕄) = tLoc d ↦[tRow (rowA L)]{fullShare} f := by
  rw [set_tA]
theorem pts_tB (f : Buf (Elt F) (tLoc d)) :
    ((tB L).view.loc (V d (cV L) (jV L)) ↦[(tB L).view.set]{fullShare} f : sProp 𝕄) = tLoc d ↦[tRow (rowB L)]{fullShare} f := by
  rw [set_tB]
theorem pts_oA (f : Buf (Elt F) (oLoc d)) :
    ((oA L).view.loc (V d (cV L) (jV L)) ↦[(oA L).view.set]{fullShare} f : sProp 𝕄) = oLoc d ↦[oRow (rowA L)]{fullShare} f := by
  rw [set_oA]
theorem pts_oB (f : Buf (Elt F) (oLoc d)) :
    ((oB L).view.loc (V d (cV L) (jV L)) ↦[(oB L).view.set]{fullShare} f : sProp 𝕄) = oLoc d ↦[oRow (rowB L)]{fullShare} f := by
  rw [set_oB]
/-- The rest of the batch entry's embeddings, set aside while a copy reads the window. -/
def restA (w : BitVec 32) (h : k0_chk1 L w) (f : Buf (Elt F) (eLoc d)) : sProp 𝕄 :=
  eLoc d ↦[eRow (rowA L) \ (eA L w h).view.set]{fullShare} f
theorem pts_eA (w : BitVec 32) (h : k0_chk1 L w) (f : Buf (Elt F) (eLoc d)) :
    (eLoc d ↦[eRow (rowA L)]{fullShare} f : sProp 𝕄)
      ⊣⊢ iprop(((eA L w h).view.loc (V d (cV L) (jV L)) ↦[(eA L w h).view.set]{fullShare} f)
          ∗ restA d L w h f) :=
  pointsTo_split_subset (set_eA L w h)
/-- The rest of the batch entry's embeddings, set aside while a copy reads the window. -/
def restB (w : BitVec 32) (h : k0_chk2 L w) (f : Buf (Elt F) (eLoc d)) : sProp 𝕄 :=
  eLoc d ↦[eRow (rowB L) \ (eB L w h).view.set]{fullShare} f
theorem pts_eB (w : BitVec 32) (h : k0_chk2 L w) (f : Buf (Elt F) (eLoc d)) :
    (eLoc d ↦[eRow (rowB L)]{fullShare} f : sProp 𝕄)
      ⊣⊢ iprop(((eB L w h).view.loc (V d (cV L) (jV L)) ↦[(eB L w h).view.set]{fullShare} f)
          ∗ restB d L w h f) :=
  pointsTo_split_subset (set_eB L w h)
theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl

/-- A scratch after its copy holds the batch entry's row of token ids. -/
theorem pts_fetchA (fd : S2048.Idx → BitVec 32) (f : S64x2048.Idx → BitVec 32) :
    ((sA).view.loc (V d (cV L) (jV L)) ↦{fullShare}
        (sA).view.write (Elt F) fd (ReadAs.same.apply ((tA L).view.read (Elt F) f)) Finset.univ : sProp 𝕄)
      ⊢ (sA).view.loc (V d (cV L) (jV L)) ↦{fullShare} tokRow f (rowA L) :=
  Entails.of_eq (pointsTo_congr fun i _ => congrFun (fetchA (F := F) L fd f) i)
theorem pts_fetchB (fd : S2048.Idx → BitVec 32) (f : S64x2048.Idx → BitVec 32) :
    ((sB).view.loc (V d (cV L) (jV L)) ↦{fullShare}
        (sB).view.write (Elt F) fd (ReadAs.same.apply ((tB L).view.read (Elt F) f)) Finset.univ : sProp 𝕄)
      ⊢ (sB).view.loc (V d (cV L) (jV L)) ↦{fullShare} tokRow f (rowB L) :=
  Entails.of_eq (pointsTo_congr fun i _ => congrFun (fetchB (F := F) L fd f) i)

/-- The output row after its copy holds the pooled row. -/
theorem pts_storeA (fd : Buf (Elt F) (oLoc d)) (p : S768.Idx → Elt F .f32)
    (hp : ∀ x, p x = (m (eLoc d) : S64x2048x768.Idx → Elt F .f32) (ix3 (rowA L) (pos (m (tLoc d)) (rowA L)) (x 0))) :
    ((oA L).view.loc (V d (cV L) (jV L)) ↦[(oA L).view.set]{fullShare} (oA L).view.writes (Elt F) fd [⟨Rect.whole S768, p⟩] : sProp 𝕄)
      ⊢ oLoc d ↦[oRow (rowA L)]{fullShare} G m d :=
  (Entails.of_eq (pts_oA d L _)).trans (Entails.of_eq (pointsTo_congr (storeA (F := F) L (m (tLoc d)) fd (m (eLoc d)) p hp)))
theorem pts_storeB (fd : Buf (Elt F) (oLoc d)) (p : S768.Idx → Elt F .f32)
    (hp : ∀ x, p x = (m (eLoc d) : S64x2048x768.Idx → Elt F .f32) (ix3 (rowB L) (pos (m (tLoc d)) (rowB L)) (x 0))) :
    ((oB L).view.loc (V d (cV L) (jV L)) ↦[(oB L).view.set]{fullShare} (oB L).view.writes (Elt F) fd [⟨Rect.whole S768, p⟩] : sProp 𝕄)
      ⊢ oLoc d ↦[oRow (rowB L)]{fullShare} G m d :=
  (Entails.of_eq (pts_oB d L _)).trans (Entails.of_eq (pointsTo_congr (storeB (F := F) L (m (tLoc d)) fd (m (eLoc d)) p hp)))

/-! ## The tile's own semaphores and scratches -/

/-- The four copy semaphores of the body. -/
abbrev cell0 (d : Dev nD) (c : Fin τ.nSC) (i : Fin τ.nSub) : GSem nD τ sig := (V d c i, .dma cc0_scratch2.sem)
abbrev cell1 (d : Dev nD) (c : Fin τ.nSC) (i : Fin τ.nSub) : GSem nD τ sig := (V d c i, .dma cc0_scratch3.sem)
abbrev cell2 (d : Dev nD) (c : Fin τ.nSC) (i : Fin τ.nSub) : GSem nD τ sig := (V d c i, .dma cc0_scratch4.sem)
abbrev cell3 (d : Dev nD) (c : Fin τ.nSC) (i : Fin τ.nSub) : GSem nD τ sig := (V d c i, .dma cc0_scratch5.sem)

theorem mem_cell (s : DmaSem sig) (hs : (SemLoc.dma s : SemLoc sig).isScoped .scVector = true) :
    ((V d (cV L) (jV L), .dma s) : GSem nD τ sig) ∈ ownCells (V d (cV L) (jV L)) := mem_ownCells.mpr ⟨rfl, hs⟩
theorem cell_ne {a b : DmaSem sig} (h : a ≠ b) :
    ((V d (cV L) (jV L), .dma a) : GSem nD τ sig) ≠ (V d (cV L) (jV L), .dma b) := fun e => h (SemLoc.dma.inj (Prod.mk.inj e).2)

/-- The semaphores the tile owns are the four the body names and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  unfold SparseCore.Cfg.ownSems0
  rw [SparseCore.bigSep_erase' (mem_cell d L cc0_scratch2.sem (by decide)),
    SparseCore.bigSep_erase' (Finset.mem_erase.mpr ⟨cell_ne d L (show cc0_scratch3.sem ≠ cc0_scratch2.sem by decide), mem_cell d L cc0_scratch3.sem (by decide)⟩),
    SparseCore.bigSep_erase' (Finset.mem_erase.mpr ⟨cell_ne d L (show cc0_scratch4.sem ≠ cc0_scratch3.sem by decide),
      Finset.mem_erase.mpr ⟨cell_ne d L (show cc0_scratch4.sem ≠ cc0_scratch2.sem by decide), mem_cell d L cc0_scratch4.sem (by decide)⟩⟩),
    SparseCore.bigSep_erase' (Finset.mem_erase.mpr ⟨cell_ne d L (show cc0_scratch5.sem ≠ cc0_scratch4.sem by decide),
      Finset.mem_erase.mpr ⟨cell_ne d L (show cc0_scratch5.sem ≠ cc0_scratch3.sem by decide),
        Finset.mem_erase.mpr ⟨cell_ne d L (show cc0_scratch5.sem ≠ cc0_scratch2.sem by decide), mem_cell d L cc0_scratch5.sem (by decide)⟩⟩⟩)]

/-- The buffers the tile owns are the two scratches, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The loops' invariants -/

/-- After `k` trips: the carried vectors are the running maxima after `k` trips of the row `r` the scratch holds. -/
def inv1 (r : S2048.Idx → BitVec 32) (k : Nat) (acc : IVec S16 32 × IVec S16 32) : sProp 𝕄 :=
  iprop(⌜acc = (lo r k, hi r k)⌝ ∗ (sA).view.loc (V d (cV L) (jV L)) ↦{fullShare} r)
def inv2 (r : S2048.Idx → BitVec 32) (k : Nat) (acc : IVec S16 32 × IVec S16 32) : sProp 𝕄 :=
  iprop(⌜acc = (lo r k, hi r k)⌝ ∗ (sB).view.loc (V d (cV L) (jV L)) ↦{fullShare} r)

variable [FloatOps F]

/-- The body: from the tile's rows as launched to its rows with the output pooled. -/
theorem tile_body (hF : (K (F := F)).Facts) (O : CellTallies nD τ sig (HIx 1)) (W : Waits sig (HIx 1)) (hO : ∀ g, O g none = 0) :
    iprop(levAts (K (F := F)).L (K (F := F)).lev ∗ emp
        ∗ tilePts m d (m (oLoc d)) (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__pooler_kernel L eV (Memref.isWhole_whole _) tV (Memref.isWhole_whole _) oV (Memref.isWhole_whole _)
            sA (Memref.isWhole_whole _) sB (Memref.isWhole_whole _) cc0_scratch2 cc0_scratch3 cc0_scratch4 cc0_scratch5)
          fun _ => iprop(tilePts m d (G m d) (cL L) (jL L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨HeA, HtA, HoA⟩, ⟨HeB, HtB, HoB⟩⟩, ⟨⟨%fa, HsA⟩, ⟨%fb, HsB⟩, Hbufs⟩, ⟨Hc0, Hc1, Hc2, Hc3, Hsems⟩, HO⟩
  -- every wait of the body is admissible: what the tile owes lies above its copy semaphores
  ihave Hmw := (show levAts (K (F := F)).L (K (F := F)).lev ⊢ Transfers.MayWaits (V d (cV L) (jV L)) (default : HIx 1) O from
    (K (F := F)).mayWaits_none (thr := V d (cV L) (jV L)) hO) $$ Hlv
  ihave HtA' := (Entails.of_eq (pts_tA (F := F) d L _).symm) $$ HtA
  ihave HtB' := (Entails.of_eq (pts_tB (F := F) d L _).symm) $$ HtB
  ihave HoA' := (Entails.of_eq (pts_oA (F := F) d L _).symm) $$ HoA
  ihave HoB' := (Entails.of_eq (pts_oB (F := F) d L _).symm) $$ HoB
  ihave HsA' := (Entails.of_eq (pts_sA (F := F) d L _).symm) $$ HsA
  ihave HsB' := (Entails.of_eq (pts_sB (F := F) d L _).symm) $$ HsB
  sl_unfold [cc0__pooler_kernel]
  sl_exec (disch := exact View.amount_pos _ _ (show 0 < S2048.numel by decide))
  sl_for (inv1 d L (tokRow (m (tLoc d)) (rowA L))) $$ [HsA']
  case region =>
    intro k acc
    unfold inv1
    iintro ⟨%hacc, Hs⟩
    subst hacc
    sl_exec
    sl_step
    isplitr
    · ipureintro
      exact Prod.ext (trip1_lo (F := F) k _) (trip1_hi (F := F) k _)
    · iexact Hs
  · unfold inv1
    isplitr
    · ipureintro; exact start1 _
    · iapply (pts_fetchA d L _ _); iexact HsA'
  iintro %acc HI
  unfold inv1
  icases HI with ⟨%hacc, HsA'⟩
  subst hacc
  have h1 : k0_chk1 L (best (tokRow (m (tLoc d)) (rowA L))) := chk1_all L _
  ihave HeA2 := (pts_eA (F := F) d L _ h1 _).1 $$ HeA
  icases HeA2 with ⟨HeA', HeAr⟩
  sl_exec (disch := first | exact View.amount_pos _ _ (show 0 < S2048.numel by decide) | exact View.amount_pos _ _ (show 0 < S768.numel by decide))
  sl_for (inv2 d L (tokRow (m (tLoc d)) (rowB L))) $$ [HsB']
  case region =>
    intro k acc
    unfold inv2
    iintro ⟨%hacc, Hs⟩
    subst hacc
    sl_exec
    sl_step
    isplitr
    · ipureintro
      exact Prod.ext (trip2_lo (F := F) k _) (trip2_hi (F := F) k _)
    · iexact Hs
  · unfold inv2
    isplitr
    · ipureintro; exact start2 _
    · iapply (pts_fetchB d L _ _); iexact HsB'
  iintro %acc HI
  unfold inv2
  icases HI with ⟨%hacc, HsB'⟩
  subst hacc
  have h2 : k0_chk2 L (best (tokRow (m (tLoc d)) (rowB L))) := chk2_all L _
  ihave HeB2 := (pts_eB (F := F) d L _ h2 _).1 $$ HeB
  icases HeB2 with ⟨HeB', HeBr⟩
  sl_exec (disch := first | exact View.amount_pos _ _ (show 0 < S2048.numel by decide) | exact View.amount_pos _ _ (show 0 < S768.numel by decide))
  sl_step
  isplitl [HeA' HeAr HtA' HoA' HeB' HeBr HtB' HoB']
  · isplitl [HeA' HeAr HtA' HoA']
    · isplitl [HeA' HeAr]
      · iapply (pts_eA (F := F) d L _ h1 _).2
        isplitl [HeA']; · iexact HeA'
        iexact HeAr
      isplitl [HtA']
      · iapply (Entails.of_eq (pts_tA (F := F) d L _)); iexact HtA'
      · iapply (pts_storeA (F := F) m d L _ _ (readA (F := F) L (m (tLoc d)) h1 (m (eLoc d)))); iexact HoA'
    isplitl [HeB' HeBr]
    · iapply (pts_eB (F := F) d L _ h2 _).2
      isplitl [HeB']; · iexact HeB'
      iexact HeBr
    isplitl [HtB']
    · iapply (Entails.of_eq (pts_tB (F := F) d L _)); iexact HtB'
    · iapply (pts_storeB (F := F) m d L _ _ (readB (F := F) L (m (tLoc d)) h2 (m (eLoc d)))); iexact HoB'
  isplitl [HsA' HsB' Hbufs]
  · isplitl [HsA']; · iexists _; iexact HsA'
    isplitl [HsB']; · iexists _; iexact HsB'
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p _
  rcases p.2 with _ | q
  · exact .inr (.inl rfl)
  · exact .inr (.inr (congrArg some (Subsingleton.elim q 0)))

end Tile

end Cert.Proof.IdealRun

end
-- ==== Proof.IdealRun.lean ====
/-
  The kernel's run: the call hands each tile the rows of its two batch entries and takes them back with the output pooled, so the
  whole program ends with the inputs as launched, the output equal to the pooled output, and every semaphore at zero.
-/
module

public import proofs.«01_k».proof.Proof.IdealTile

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Packed

variable {F : FTy → Type}

local notation "𝕄" => MT nD τ sig (HIx 1) (Elt F) ℕ UU ℕ

local notation "eV" => (Memref.whole Cert.KernelIdeal.main_arg0_scv : Memref Cert.KernelIdeal.sig Kind.scVector Space.hbm Cert.KernelIdeal.S64x2048x768 EltTy.f32)
local notation "tV" => (Memref.whole Cert.KernelIdeal.main_arg1_scv : Memref Cert.KernelIdeal.sig Kind.scVector Space.hbm Cert.KernelIdeal.S64x2048 EltTy.i32)
local notation "oV" => (Memref.whole Cert.KernelIdeal.main_v0_scv : Memref Cert.KernelIdeal.sig Kind.scVector Space.hbm Cert.KernelIdeal.S64x768 EltTy.f32)
local notation "sA" => (Memref.whole Cert.KernelIdeal.cc0_scratch0 : Memref Cert.KernelIdeal.sig Kind.scVector Space.vmem Cert.KernelIdeal.S2048 EltTy.i32)
local notation "sB" => (Memref.whole Cert.KernelIdeal.cc0_scratch1 : Memref Cert.KernelIdeal.sig Kind.scVector Space.vmem Cert.KernelIdeal.S2048 EltTy.i32)

variable (m : (ℓ : Loc nD τ sig) → Buf (Elt F) ℓ) (ρ : Dev nD → PrngReg)

/-! ## What the handshakes carry -/

/-- The rows of all sixteen tiles of SparseCore `c`, the output at contents `f`. -/
abbrev corePts (d : Dev nD) (f : Buf (Elt F) (oLoc d)) (c : Fin 2) : sProp 𝕄 := bigSep Finset.univ fun s : Fin 16 => tilePts m d f c s

variable [FloatOps F]

/-- Each SparseCore is handed its tiles' rows as launched and brings them back with the output pooled; each tile its own two. -/
def P : (K (F := F)).Pay (nD := nD) (Val := Elt F) (Name := ℕ) (U := UU) where
  st := fun q d c => match q with | 0 => corePts m d (m (oLoc d)) (Fin.cast nCore_zero c)
  dn := fun q d c => match q with | 0 => corePts m d (G m d) (Fin.cast nCore_zero c)
  go := fun q d c i => match q with | 0 => tilePts m d (m (oLoc d)) (Fin.cast nCore_zero c) (Fin.cast nSub_zero i)
  td := fun q d c i => match q with | 0 => tilePts m d (G m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePts m d (m (oLoc d)) (Fin.cast nCore_zero c)))
  dn q d c := match q with
    | 0 => (inferInstance : BI.Storable (upEmb : UEmb _ 𝕄) (corePts m d (G m d) (Fin.cast nCore_zero c)))
  go q d c i := match q with
    | 0 => (inferInstance : BI.Storable (upEmb : UEmb _ 𝕄) (tilePts m d (m (oLoc d)) (Fin.cast nCore_zero c) (Fin.cast nSub_zero i)))
  td q d c i := match q with
    | 0 => (inferInstance : BI.Storable (upEmb : UEmb _ 𝕄) (tilePts m d (G m d) (Fin.cast nCore_zero c) (Fin.cast nSub_zero i)))

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pooler_kernel (coordsV c s)
          eV (Memref.isWhole_whole _) tV (Memref.isWhole_whole _) oV (Memref.isWhole_whole _)
          sA (Memref.isWhole_whole _) sB (Memref.isWhole_whole _) cc0_scratch2 cc0_scratch3 cc0_scratch4 cc0_scratch5) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

/-! ## A SparseCore's rows are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePts m d (m (oLoc d)) (Fin.cast nCore_zero c) ⊢ |={Set.univ}=> iprop(
      (bigSep Finset.univ fun i : Fin ((K (F := F)).nSub 0) => tilePts m d (m (oLoc d)) (Fin.cast nCore_zero c) (Fin.cast nSub_zero i))
      ∗ ((bigSep Finset.univ fun i : Fin ((K (F := F)).nSub 0) => tilePts m d (G m d) (Fin.cast nCore_zero c) (Fin.cast nSub_zero i))
          -∗ corePts m d (G m d) (Fin.cast nCore_zero c)))
  rw [bigSep_tasks (F := F) (fun i => tilePts m d (m (oLoc d)) (Fin.cast nCore_zero c) i),
    bigSep_tasks (F := F) (fun i => tilePts m d (G m d) (Fin.cast nCore_zero c) i)]
  iintro H; imodintro
  isplitl [H]; · iexact H
  iintro H; iexact H

/-- Both SparseCores' rows are the three whole arrays. -/
theorem cores_eq (d : Dev nD) (f : Buf (Elt F) (oLoc d)) :
    (bigSep Finset.univ fun c : Fin ((K (F := F)).nCore 0) => corePts m d f (Fin.cast nCore_zero c))
      = (iprop((eLoc d ↦{fullShare} m (eLoc d)) ∗ (tLoc d ↦{fullShare} m (tLoc d)) ∗ oLoc d ↦{fullShare} f) : sProp 𝕄) := by
  rw [bigSep_cores (F := F) (fun c => corePts m d f c), ← bigSep_rows (fun b => rowPts m d f b), bigSep_sep', bigSep_sep',
    ← ePts_rows, ← tPts_rows, ← oPts_rows]

/-! ## The launch element: the handshakes' rounds, nothing of the kernel's own -/

def u₀ : UU := (initOf (K (F := F)).hsCells (K (F := F)).hsToks, 1)

omit [FloatOps F] in
/-- A collection of empty resources is the empty resource. -/
theorem noPieces {I : Type} (s : Finset I) : (bigSep s fun _ => (iprop(emp) : sProp 𝕄)) = iprop(emp) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [noPieces]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), noPieces]
  iempintro

/-! ## The program on the TensorCore -/

omit [FloatOps F] in
theorem unscopedBufs_eq (d : Dev nD) (W : (b : Ref sig .tc) → Buf (Elt F) ((d.tc : Thread nD τ).loc b)) :
    (unscopedBufs d W : sProp 𝕄)
      = iprop((eLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What device `d` ends with: the inputs as launched, the output pooled. -/
abbrev FIN (d : Dev nD) : sProp 𝕄 :=
  iprop((eLoc d ↦{fullShare} m (eLoc d)) ∗ (tLoc d ↦{fullShare} m (tLoc d)) ∗ oLoc d ↦{fullShare} G m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · iapply (Entails.of_eq (cores_eq m d (m (oLoc d))).symm); iexact Harr
  iintro ⟨Hst, Hdn⟩
  imodintro
  isplitl [Hst]; · iexact Hst
  isplitr [Hb Hts]
  · iapply (Entails.of_eq (cores_eq m d (G m d))); iexact Hdn
  isplitl [Hb] <;> iassumption

/-- The final memory of device `d`. -/
def fq (d : Dev nD) (s' : Phys nD τ sig (Elt F)) : Prop :=
  s'.mem.mem (eLoc d) = m (eLoc d) ∧ s'.mem.mem (tLoc d) = m (tLoc d) ∧ s'.mem.mem (oLoc d) = G m d

theorem hfin (d : Dev nD) (s' : Phys nD τ sig (Elt F)) : iprop(FIN m d ∗ SI s') ⊢ (⌜fq m d s'⌝ : sProp 𝕄) := by
  iintro ⟨⟨He, Ht, Ho⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%he, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := oLoc d) (I := Finset.univ) (q := fullShare) (f := G m d)) $$ [HSI Ho]
  · isplitl [HSI] <;> iassumption
  icases H with %ho
  ipureintro
  exact ⟨funext fun i => he i (Finset.mem_univ i), funext fun i => ht i (Finset.mem_univ i), funext fun i => ho i (Finset.mem_univ i)⟩

/-! ## The run -/

/-- From any launch memory the program ends with the inputs unchanged, the output pooled, and every semaphore at zero. -/
theorem run_main [∀ e, Nonempty (Elt F e)] :
    θ_run (Cert.KernelIdeal.defs (F := F)) (Cert.KernelIdeal.threads (F := F)) ⟨m, fun _ => 0, ρ⟩
      (fun r => (∀ c : Dev nD, r.2.mem (eLoc c) = m (eLoc c) ∧ r.2.mem (tLoc c) = m (tLoc c) ∧ r.2.mem (oLoc c) = G m c) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h hz => ⟨h, hz⟩)

end Cert.Proof.IdealRun

end
-- ==== Proof.RefRun.lean ====
/-
  The reference's run: it is a straight line of host operations, so it ends with its arguments unchanged and its result the composed
  term `out` of them.
-/
module

public import proofs.«01_k».proof.Proof.Gen.ReferenceIdeal
public import Idealize.ShloMosaic.Lib.StableHlo.Run
public import Idealize.ShloMosaic.Adequacy
public import Idealize.ShloMosaic.Init
public import Idealize.ShloMosaic.Lib.Quiescent

@[expose] public section

noncomputable section

namespace Cert.Proof.RefRun

open Idealize.ShloMosaic Idealize.ShloMosaic.TcCoe Idealize.ShloMosaic.StableHlo Idealize.SL.Sem
open Cert.ReferenceIdeal Cert.ReferenceIdeal.Gen

variable {F : FTy → Type} [FloatOps F]

/-- The position of each row's largest token id, ties to the earliest. -/
def top (tok : IVec S64x2048 32) : IVec S64 32 := fun j =>
  (Host.reduce2 reducer_argmax_i32_i32 tok (iotaInDim S64x2048 32 1) (constantI S_ 32 2147483648#32) (constantI S_ 32 0#32)
    reducesTo_S64x2048_S64_d1 h_S_ j).2

/-- Those positions as the column of start indices the selection takes. -/
def col (tok : IVec S64x2048 32) : IVec S64x1x1 32 := broadcastInDim S64x1x1 ![0] bcast_S64_S64x1x1_0 (top tok)

/-- The start indices with a negative one counted from the end. -/
def starts (i : IVec S64x1x1 32) : IVec S64x1x1 32 :=
  select (cmpi .slt i (broadcastInDim S64x1x1 ![] bcast_S_S64x1x1 (constantI S_ 32 0#32)))
    (addi i (broadcastInDim S64x1x1 ![] bcast_S_S64x1x1 (constantI S_ 32 2048#32))) i

/-- Whether each start index is inside the axis. -/
def inside (i : IVec S64x1x1 32) : IVec S64x1 1 :=
  Host.reduce IntOp.andi
    (andi (cmpi .sge i (broadcastInDim S64x1x1 ![] bcast_S_S64x1x1 (constantI S_ 32 0#32)))
      (cmpi .sle i (broadcastInDim S64x1x1 ![0, 1, 2] bcast_S1x1x1_S64x1x1_0_1_2
        (broadcastInDim S1x1x1 ![2] bcast_S1_S1x1x1_2 (constantI S1 32 2047#32)))))
    (constantI S_ 1 1#1) reducesTo_S64x1x1_S64x1_d2 h_S_

/-- The selected rows: the gathered row where the index is inside, a fill value elsewhere. -/
def taken (emb : FVec F S64x2048x768 .f32) (i : IVec S64x1x1 32) : FVec F S64x1x768 .f32 :=
  select (broadcastInDim S64x1x768 ![0, 1] bcast_S64x1_S64x1x768_0_1 (inside (starts i)))
    (Host.gather gather_S64x2048x768_S64x1x1_S64x1x768_2_1_0_0_1_2_11768 emb (starts i))
    (broadcastInDim S64x1x768 ![] bcast_S_S64x1x768 (constant S_ .f32 0x7FC00000#32))

/-- The reference's result from its arguments' contents. -/
def out (emb : FVec F S64x2048x768 .f32) (tok : IVec S64x2048 32) : FVec F S64x768 .f32 :=
  shapeCast S64x768 (taken emb (col tok)) shapeCasts_S64x1x768_S64x768

/-- The reference's operations in order, its two helper functions in place. -/
abbrev ops : List (HloOp τ sig (Elt F)) :=
  [ TRef.nullary main_call0.v0 (iotaInDim S64x2048 32 1),
    TRef.nullary main_call0.c (constantI S_ 32 2147483648#32),
    TRef.nullary main_call0.c_0 (constantI S_ 32 0#32),
    TRef.quaternary (.of main_arg1) main_call0.v0 main_call0.c main_call0.c_0 main_call0.v1_0 (fun x y u v j => (Host.reduce2 reducer_argmax_i32_i32 x y u v reducesTo_S64x2048_S64_d1 h_S_ j).1),
    TRef.quaternary (.of main_arg1) main_call0.v0 main_call0.c main_call0.c_0 main_call0.v1_1 (fun x y u v j => (Host.reduce2 reducer_argmax_i32_i32 x y u v reducesTo_S64x2048_S64_d1 h_S_ j).2),
    unary main_v0 main_v1 (broadcastInDim S64x1x1 ![0] bcast_S64_S64x1x1_0),
    TRef.nullary main_call1.c (constantI S_ 32 0#32),
    TRef.unary main_call1.c main_call1.v0 (broadcastInDim S64x1x1 ![] bcast_S_S64x1x1),
    TRef.binary (.of main_v1) main_call1.v0 main_call1.v1 (cmpi .slt),
    TRef.nullary main_call1.c_0 (constantI S_ 32 2048#32),
    TRef.unary main_call1.c_0 main_call1.v2 (broadcastInDim S64x1x1 ![] bcast_S_S64x1x1),
    TRef.binary (.of main_v1) main_call1.v2 main_call1.v3 addi,
    TRef.ternary main_call1.v1 main_call1.v3 (.of main_v1) main_call1.v4 select,
    TRef.nullary main_call1.c_1 (constantI S1 32 2047#32),
    TRef.nullary main_call1.c_2 (constantI S_ 32 0#32),
    TRef.unary main_call1.c_2 main_call1.v5 (broadcastInDim S64x1x1 ![] bcast_S_S64x1x1),
    TRef.binary main_call1.v4 main_call1.v5 main_call1.v6 (cmpi .sge),
    TRef.unary main_call1.c_1 main_call1.v7 (broadcastInDim S1x1x1 ![2] bcast_S1_S1x1x1_2),
    TRef.unary main_call1.v7 main_call1.v8 (broadcastInDim S64x1x1 ![0, 1, 2] bcast_S1x1x1_S64x1x1_0_1_2),
    TRef.binary main_call1.v4 main_call1.v8 main_call1.v9 (cmpi .sle),
    TRef.binary main_call1.v6 main_call1.v9 main_call1.v10 andi,
    TRef.nullary main_call1.c_3 (constantI S_ 1 1#1),
    TRef.binary main_call1.v10 main_call1.c_3 main_call1.v11 (fun x v => Host.reduce IntOp.andi x v reducesTo_S64x1x1_S64x1_d2 h_S_),
    TRef.binary (.of main_arg0) main_call1.v4 main_call1.v12 (fun x i => Host.gather gather_S64x2048x768_S64x1x1_S64x1x768_2_1_0_0_1_2_11768 x i),
    TRef.unary main_call1.v11 main_call1.v13 (broadcastInDim S64x1x768 ![0, 1] bcast_S64x1_S64x1x768_0_1),
    TRef.nullary main_call1.cst (constant S_ .f32 0x7FC00000#32),
    TRef.unary main_call1.cst main_call1.v14 (broadcastInDim S64x1x768 ![] bcast_S_S64x1x768),
    TRef.ternary main_call1.v13 main_call1.v12 main_call1.v14 main_call1.v15 select,
    reshape main_v2 main_v3 rfl shapeCasts_S64x1x768_S64x768 ]

theorem main_eq (c : Dev nD) : main (F := F) c = seq ops := by
  simp only [main, fn_argmax.body, fn_take_along_axis.body, seq, bind_assoc, pure_bind]

set_option maxRecDepth 4096 in
theorem out_eq (V : Valuation τ sig (Elt F)) :
    after ops V (main_v3 : DevRef τ sig) = out (V (main_arg0 : DevRef τ sig)) (V (main_arg1 : DevRef τ sig)) := by
  after_results_simp
  simp -implicitDefEqProofs only [TRef.toBuf, TRef.ofBuf, cast_cast, cast_eq]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., unary_bufs_sub .., binary_bufs_sub .., nullary_bufs_sub .., unary_bufs_sub .., binary_bufs_sub ..,
    ternary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., reshape_bufs_sub ..⟩

/-- From any launch memory the reference ends with its arguments unchanged, its result `out` of them, and every semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_v3)
            = out (F := F) (m ((c.tc : Thread nD τ).loc main_arg0)) (m ((c.tc : Thread nD τ).loc main_arg1)))
      ∧ r.2.sem = fun _ => 0 :=
  (θ_run defs _ _).mono
    (fun r h => ⟨fun c => ⟨(h c main_arg0).trans (arg0_eq _), (h c main_arg1).trans (arg1_eq _), (h c main_v3).trans (out_eq _)⟩,
      sem_eq_zero_of_no_sems (by decide) r.2⟩)
    (run_seq scopedRefs_eq scopedSems_eq defs main (fun _ => ops) main_eq (fun _ => ops_sub) m ρ)

end Cert.Proof.RefRun

end
-- ==== Proof.BestKey.lean ====
/-
  What the kernel's best key names when every token id is a word of the vocabulary: the first position of the row's largest
  token id.
-/
module

public import proofs.«01_k».proof.Proof.Packed

@[expose] public section

namespace Cert.Proof.Packed

open Idealize.ShloMosaic
open Idealize.ShloMosaic.ValueIdx (ix1 ix2 ix3)

/-- Every token id of the row is in the vocabulary. -/
def InVocab (r : RowShape.Idx → BitVec 32) : Prop := ∀ j, (word r j).toNat < 49408

/-- Position `p` holds the row's largest token id, and no earlier position does. -/
def FirstMax (r : RowShape.Idx → BitVec 32) (p : Nat) : Prop :=
  p < 2048 ∧ ∀ j, j < 2048 → (word r j).toNat < (word r p).toNat ∨ ((word r j).toNat = (word r p).toNat ∧ p ≤ j)

/-! ## Keys do not wrap -/

theorem key_toNat {r : RowShape.Idx → BitVec 32} (hr : InVocab r) {j : Nat} (hj : j < 2048) :
    (key r j).toNat = (word r j).toNat * 2048 + (2047 - j) := by
  have h := hr j
  unfold key
  rw [BitVec.toNat_add, BitVec.toNat_shiftLeft, BitVec.toNat_sub, Nat.shiftLeft_eq]
  simp only [BitVec.toNat_ofNat]
  omega

theorem key_lt {r : RowShape.Idx → BitVec 32} (hr : InVocab r) {j : Nat} (hj : j < 2048) : (key r j).toNat < 2147483648 := by
  have h := hr j
  rw [key_toNat hr hj]
  omega

theorem toInt_of_lt {x : BitVec 32} (h : x.toNat < 2147483648) : x.toInt = x.toNat := by
  rw [BitVec.toInt_eq_toNat_cond]; split <;> omega

/-! ## Maxima -/

theorem maxsi_toInt (x y : BitVec 32) : (IntOp.maxsi x y).toInt = max x.toInt y.toInt := by
  unfold IntOp.maxsi
  simp only [BitVec.slt, decide_eq_true_eq]
  split <;> omega

theorem maxsi_or (x y : BitVec 32) : IntOp.maxsi x y = x ∨ IntOp.maxsi x y = y := by
  unfold IntOp.maxsi; split <;> simp

theorem maxui_toNat (x y : BitVec 32) : (IntOp.maxui x y).toNat = max x.toNat y.toNat := by
  unfold IntOp.maxui
  simp only [BitVec.ult, decide_eq_true_eq]
  split <;> omega

theorem maxui_or (x y : BitVec 32) : IntOp.maxui x y = x ∨ IntOp.maxui x y = y := by
  unfold IntOp.maxui; split <;> simp

/-- A lane's running maximum is at least each key it has read. -/
theorem running_ge (r : RowShape.Idx → BitVec 32) (o : Nat) :
    ∀ n k, k < n → (key r (32 * k + o)).toInt ≤ (running r o n).toInt
  | 0, k, h => absurd h (Nat.not_lt_zero k)
  | n + 1, k, h => by
    rw [running, maxsi_toInt]
    rcases Nat.lt_succ_iff_lt_or_eq.1 h with h | rfl
    · exact le_trans (running_ge r o n k h) (le_max_left _ _)
    · exact le_max_right _ _

/-- and, once it has read one, is one of them. -/
theorem running_mem (r : RowShape.Idx → BitVec 32) (o : Nat) :
    ∀ n, (∃ k, k < n + 1 ∧ running r o (n + 1) = key r (32 * k + o))
  | 0 => ⟨0, Nat.one_pos, by
      rw [running, running]
      have h : (2147483648#32 : BitVec 32).toInt ≤ (key r (32 * 0 + o)).toInt := by
        have := BitVec.le_toInt (key r (32 * 0 + o))
        simpa using this
      apply BitVec.eq_of_toInt_eq
      rw [maxsi_toInt]; exact max_eq_right h⟩
  | n + 1 => by
    rw [running]
    rcases maxsi_or (running r o (n + 1)) (key r (32 * (n + 1) + o)) with h | h
    · obtain ⟨k, hk, e⟩ := running_mem r o n
      exact ⟨k, Nat.lt_succ_of_lt hk, h.trans e⟩
    · exact ⟨n + 1, Nat.lt_succ_self _, h⟩

/-- A fold of unsigned maxima is its start or one of the values it meets, and is at least all of them. -/
theorem foldl_maxui {ι : Type} (g : ι → BitVec 32) (l : List ι) (a : BitVec 32) :
    (l.foldl (fun x i => IntOp.maxui x (g i)) a = a ∨ ∃ i ∈ l, l.foldl (fun x i => IntOp.maxui x (g i)) a = g i)
    ∧ a.toNat ≤ (l.foldl (fun x i => IntOp.maxui x (g i)) a).toNat
    ∧ ∀ i ∈ l, (g i).toNat ≤ (l.foldl (fun x i => IntOp.maxui x (g i)) a).toNat := by
  induction l generalizing a with
  | nil => simp
  | cons i l ih =>
    obtain ⟨h1, h2, h3⟩ := ih (IntOp.maxui a (g i))
    rw [maxui_toNat] at h2
    simp only [List.foldl_cons]
    refine ⟨?_, le_trans (le_max_left _ _) h2, ?_⟩
    · rcases h1 with h1 | ⟨k, hk, h1⟩
      · rcases maxui_or a (g i) with h | h
        · exact .inl (h1.trans h)
        · exact .inr ⟨i, List.mem_cons_self, h1.trans h⟩
      · exact .inr ⟨k, List.mem_cons_of_mem _ hk, h1⟩
    · intro k hk
      rcases List.mem_cons.1 hk with rfl | hk
      · exact le_trans (le_max_right _ _) h2
      · exact h3 k hk

/-- The last lane of a running unsigned maximum is one lane's value and at least every lane's. -/
theorem scan_last (v : IVec Lanes 32) (x : Lanes.Idx) (hx : (x 0).val = 15) :
    (∃ l : Fin 16, scan .max v x = v (ix1 l)) ∧ ∀ l : Fin 16, (v (ix1 l)).toNat ≤ (scan .max v x).toNat := by
  have h := foldl_maxui (fun k : Fin 16 => v (Shape.ofLane (d := ![16]) k))
    ((List.finRange 16).filter fun k => decide (0 < k.val ∧ k.val ≤ (x 0).val)) (v (Shape.ofLane (d := ![16]) (0 : Fin 16)))
  have hl : ∀ k : Fin 16, Shape.ofLane (d := ![16]) k = ix1 k := fun k => funext fun a => by fin_cases a; rfl
  have hs : scan .max v x = ((List.finRange 16).filter fun k => decide (0 < k.val ∧ k.val ≤ (x 0).val)).foldl
      (fun (a : BitVec 32) (k : Fin 16) => IntOp.maxui a (v (Shape.ofLane (d := ![16]) k))) (v (Shape.ofLane (d := ![16]) (0 : Fin 16))) := rfl
  rw [← hs] at h
  simp only [hl] at h
  obtain ⟨h1, h2, h3⟩ := h
  refine ⟨?_, fun l => ?_⟩
  · rcases h1 with h1 | ⟨k, -, h1⟩
    · exact ⟨_, h1⟩
    · exact ⟨k, h1⟩
  · by_cases h0 : l = 0
    · rw [h0]; exact h2
    · refine h3 l (List.mem_filter.2 ⟨List.mem_finRange l, ?_⟩)
      have := l.isLt
      have : l.val ≠ 0 := fun e => h0 (Fin.ext e)
      simp only [decide_eq_true_eq]
      omega

/-- Flipping the sign bit turns signed order into unsigned order. -/
theorem flip_toNat (x : BitVec 32) : ((x ^^^ 2147483648#32).toNat : Int) = x.toInt + 2147483648 := by
  have hx := x.isLt
  have hd : (x.toNat ^^^ 2147483648) / 2 ^ 31 = x.toNat / 2 ^ 31 ^^^ 2147483648 / 2 ^ 31 := Nat.xor_div_two_pow
  have hm : (x.toNat ^^^ 2147483648) % 2 ^ 31 = x.toNat % 2 ^ 31 ^^^ 2147483648 % 2 ^ 31 := Nat.xor_mod_two_pow
  rw [show (2147483648 / 2 ^ 31 : Nat) = 1 by decide] at hd
  rw [show (2147483648 % 2 ^ 31 : Nat) = 0 by decide, Nat.xor_zero] at hm
  rw [BitVec.toNat_xor, BitVec.toInt_eq_toNat_cond]
  simp only [BitVec.toNat_ofNat]
  rw [show (2147483648 % 2 ^ 32 : Nat) = 2147483648 by decide]
  rcases (show x.toNat / 2 ^ 31 = 0 ∨ x.toNat / 2 ^ 31 = 1 by omega) with h | h <;> rw [h] at hd
  · rw [show (0 ^^^ 1 : Nat) = 1 by decide] at hd
    split <;> omega
  · rw [show (1 ^^^ 1 : Nat) = 0 by decide] at hd
    split <;> omega

theorem flip_flip (x : BitVec 32) : (x ^^^ 2147483648#32) ^^^ 2147483648#32 = x := by
  rw [BitVec.xor_assoc, BitVec.xor_self, BitVec.xor_zero]

/-- The best key is the key of some position, and at least the key of every position. -/
theorem best_spec (r : RowShape.Idx → BitVec 32) :
    (∃ p, p < 2048 ∧ best r = key r p) ∧ ∀ j, j < 2048 → (key r j).toInt ≤ (best r).toInt := by
  set v : IVec Lanes 32 := xori (maxsi (lo r 64) (hi r 64)) (broadcast Lanes 2147483648#32) with hv
  obtain ⟨⟨l, hl⟩, hle⟩ := scan_last v (fun a => ⟨(![15] : Fin 1 → Nat) a, lane_inb a⟩) rfl
  have hvl : ∀ l : Fin 16, v (ix1 l) = IntOp.maxsi (running r l.val 64) (running r (16 + l.val) 64) ^^^ 2147483648#32 := fun l => rfl
  have hb : best r = scan .max v (fun a => ⟨(![15] : Fin 1 → Nat) a, lane_inb a⟩) ^^^ 2147483648#32 := rfl
  have hbl : best r = IntOp.maxsi (running r l.val 64) (running r (16 + l.val) 64) := by rw [hb, hl, hvl, flip_flip]
  have hge : ∀ l : Fin 16, (IntOp.maxsi (running r l.val 64) (running r (16 + l.val) 64)).toInt ≤ (best r).toInt := by
    intro l'
    have h := hle l'
    rw [hl, hvl, hvl, ← hbl] at h
    have h1 := flip_toNat (IntOp.maxsi (running r l'.val 64) (running r (16 + l'.val) 64))
    have h2 := flip_toNat (best r)
    omega
  constructor
  · rcases maxsi_or (running r l.val 64) (running r (16 + l.val) 64) with h | h
    · obtain ⟨k, hk, e⟩ := running_mem r l.val 63
      exact ⟨32 * k + l.val, by omega, hbl.trans (h.trans e)⟩
    · obtain ⟨k, hk, e⟩ := running_mem r (16 + l.val) 63
      exact ⟨32 * k + (16 + l.val), by omega, hbl.trans (h.trans e)⟩
  · intro j hj
    by_cases hm : j % 32 < 16
    · have h := running_ge r (j % 32) 64 (j / 32) (by omega)
      rw [show 32 * (j / 32) + j % 32 = j by omega] at h
      refine le_trans h (le_trans ?_ (hge ⟨j % 32, hm⟩))
      rw [maxsi_toInt]; exact le_max_left _ _
    · have h := running_ge r (16 + (j % 32 - 16)) 64 (j / 32) (by omega)
      rw [show 32 * (j / 32) + (16 + (j % 32 - 16)) = j by omega] at h
      refine le_trans h (le_trans ?_ (hge ⟨j % 32 - 16, by omega⟩))
      rw [maxsi_toInt]; exact le_max_right _ _

/-- For a row of the vocabulary the best key names the first position of the largest token id. -/
theorem posOf_best {r : RowShape.Idx → BitVec 32} (hr : InVocab r) : FirstMax r (posOf (best r)) := by
  obtain ⟨⟨p, hp, e⟩, hge⟩ := best_spec r
  have hpos : posOf (best r) = p := by
    rw [e, posOf, BitVec.toNat_sub, BitVec.toNat_and, key_toNat hr hp]
    simp only [BitVec.toNat_ofNat]
    rw [show (2047 % 2 ^ 32 : Nat) = 2 ^ 11 - 1 by decide, Nat.and_two_pow_sub_one_eq_mod]
    omega
  rw [hpos]
  refine ⟨hp, fun j hj => ?_⟩
  have h := hge j hj
  rw [e, toInt_of_lt (key_lt hr hj), toInt_of_lt (key_lt hr hp), key_toNat hr hj, key_toNat hr hp] at h
  omega

end Cert.Proof.Packed
-- ==== Proof.FirstMax.lean ====
/-
  What a left fold by an arg-max body ends at: the pair that beats, or ties with, every pair it met. A pair is a value and the
  position it was read at; the greater value wins, and of two equal values the earlier position.
-/
module

public import proofs.«01_k».proof.Proof.Gen.ReferenceIdeal
public import proofs.«01_k».proof.Proof.BestKey
public import Idealize.ShloMosaic.PureOps.Reduce

@[expose] public section

namespace Cert.Proof.Argmax

open Idealize.ShloMosaic
open Idealize.ShloMosaic.ValueIdx (ix1 ix2 ix3)
open Cert.ReferenceIdeal Cert.ReferenceIdeal.Gen
open Cert.Proof.Packed

abbrev Pair : Type := BitVec 32 × BitVec 32

/-- `a`'s value is greater than `b`'s, or they are equal and `a`'s position is not after `b`'s. -/
def Beats (a b : Pair) : Prop := b.1.toInt < a.1.toInt ∨ (b.1.toInt = a.1.toInt ∧ a.2.toInt ≤ b.2.toInt)

theorem Beats.refl (a : Pair) : Beats a a := .inr ⟨rfl, le_refl _⟩

theorem Beats.trans {a b c : Pair} (h : Beats a b) (h' : Beats b c) : Beats a c := by
  unfold Beats at *; omega

theorem bit_select (c : Bool) (x y : BitVec 32) : Scalar.select (BitVec.ofBool c) x y = if c then x else y := by
  cases c <;> rfl

/-- The body keeps one of its two pairs, one that beats both. -/
theorem reducer_spec (a b : Pair) :
    (reducer_argmax_i32_i32 a b = a ∨ reducer_argmax_i32_i32 a b = b)
      ∧ Beats (reducer_argmax_i32_i32 a b) a ∧ Beats (reducer_argmax_i32_i32 a b) b := by
  have e : reducer_argmax_i32_i32 a b
      = (if b.1.toInt < a.1.toInt then a.1 else b.1,
         if b.1.toInt < a.1.toInt ∨ (a.1 = b.1 ∧ a.2.toInt < b.2.toInt) then a.2 else b.2) := by
    unfold reducer_argmax_i32_i32
    simp only [IntOp.cmpi, IntOp.ori, IntOp.andi, BitVec.slt, bne_self_eq_false]
    by_cases h1 : b.1.toInt < a.1.toInt <;> by_cases h2 : a.1 = b.1 <;> by_cases h3 : a.2.toInt < b.2.toInt <;>
      simp [h1, h2, h3, Scalar.select, beq_eq_false_iff_ne.2]
  rw [e]
  by_cases h1 : b.1.toInt < a.1.toInt
  · rw [if_pos h1, if_pos (.inl h1)]
    exact ⟨.inl rfl, Beats.refl _, .inl h1⟩
  · by_cases h2 : a.1 = b.1 ∧ a.2.toInt < b.2.toInt
    · have hab : ((if b.1.toInt < a.1.toInt then a.1 else b.1,
         if b.1.toInt < a.1.toInt ∨ (a.1 = b.1 ∧ a.2.toInt < b.2.toInt) then a.2 else b.2) : Pair) = a := by
        rw [if_neg h1, if_pos (.inr h2), ← h2.1]
      rw [hab]
      exact ⟨.inl rfl, Beats.refl _, .inr ⟨by rw [h2.1], le_of_lt h2.2⟩⟩
    · have hab : ((if b.1.toInt < a.1.toInt then a.1 else b.1,
         if b.1.toInt < a.1.toInt ∨ (a.1 = b.1 ∧ a.2.toInt < b.2.toInt) then a.2 else b.2) : Pair) = b := by
        rw [if_neg h1, if_neg (by tauto)]
      rw [hab]
      refine ⟨.inr rfl, ?_, Beats.refl _⟩
      by_cases h4 : a.1.toInt = b.1.toInt
      · have h5 : ¬ a.2.toInt < b.2.toInt := fun h => h2 ⟨BitVec.eq_of_toInt_eq h4, h⟩
        exact .inr ⟨h4, by omega⟩
      · exact .inl (by omega)

/-- The fold ends at its start or a pair it met, one that beats them all. -/
theorem foldl_spec {ι : Type} (g : ι → Pair) (l : List ι) (a : Pair) :
    (l.foldl (fun r n => reducer_argmax_i32_i32 r (g n)) a = a ∨ ∃ n ∈ l, l.foldl (fun r n => reducer_argmax_i32_i32 r (g n)) a = g n)
      ∧ Beats (l.foldl (fun r n => reducer_argmax_i32_i32 r (g n)) a) a
      ∧ ∀ n ∈ l, Beats (l.foldl (fun r n => reducer_argmax_i32_i32 r (g n)) a) (g n) := by
  induction l generalizing a with
  | nil => exact ⟨.inl rfl, Beats.refl _, fun _ h => nomatch h⟩
  | cons i l ih =>
    obtain ⟨h1, h2, h3⟩ := ih (reducer_argmax_i32_i32 a (g i))
    obtain ⟨s1, s2, s3⟩ := reducer_spec a (g i)
    simp only [List.foldl_cons]
    refine ⟨?_, h2.trans s2, fun n hn => ?_⟩
    · rcases h1 with h1 | ⟨k, hk, h1⟩
      · rcases s1 with s | s
        · exact .inl (h1.trans s)
        · exact .inr ⟨i, List.mem_cons_self, h1.trans s⟩
      · exact .inr ⟨k, List.mem_cons_of_mem _ hk, h1⟩
    · rcases List.mem_cons.1 hn with rfl | hn
      · exact h2.trans s3
      · exact h3 n hn

theorem small_toInt {n : Nat} (h : n < 2048) : (BitVec.ofNat 32 n).toInt = n := by
  rw [toInt_of_lt (by simp only [BitVec.toNat_ofNat]; omega)]
  simp only [BitVec.toNat_ofNat]; omega

theorem word_tokRow (tok : TokShape.Idx → BitVec 32) (b : Fin 64) (q : Fin 2048) : word (tokRow tok b) q.val = tok (ix2 b q) := by
  unfold word; rw [dif_pos q.isLt]; rfl

/-- THE ARG-MAX OF A ROW: for token ids of the vocabulary the reference's two-operand reduction ends, at row `b`, at the first
    position of the row's largest token id. -/
theorem reduce_eq (tok : IVec S64x2048 32) (b : Fin 64) (hr : InVocab (tokRow tok b)) (p : Nat) (hp : FirstMax (tokRow tok b) p) :
    (Host.reduce2 reducer_argmax_i32_i32 tok (iotaInDim S64x2048 32 1) (constantI S_ 32 2147483648#32) (constantI S_ 32 0#32)
      reducesTo_S64x2048_S64_d1 h_S_ (ix1 b)).2 = BitVec.ofNat 32 p := by
  unfold Host.reduce2
  generalize hl : ((List.finRange S64x2048.numel).filter fun n => reducesTo_S64x2048_S64_d1.drop (S64x2048.rowMajor.symm n) = ix1 b) = l
  have hmem : ∀ n, n ∈ l ↔ (S64x2048.rowMajor.symm n 0).val = b.val := by
    intro n
    rw [← hl, List.mem_filter]
    simp only [List.mem_finRange, true_and, decide_eq_true_eq]
    have h0 : ((reducesTo_S64x2048_S64_d1.drop (S64x2048.rowMajor.symm n)) 0 : Nat) = S64x2048.rowMajor.symm n 0 :=
      Shape.ReducesTo.drop_apply_val_of_eq _ _ 0 0
    constructor
    · intro h; rw [← h0, h]
    · intro h; funext a
      match a with
      | ⟨0, _⟩ => exact Fin.ext (h0.trans h)
  have hval : ∀ n ∈ l, ∃ q : Fin 2048, ((tok (S64x2048.rowMajor.symm n), iotaInDim S64x2048 32 1 (S64x2048.rowMajor.symm n)) : Pair)
      = (word (tokRow tok b) q.val, BitVec.ofNat 32 q.val) := by
    intro n hn
    refine ⟨S64x2048.rowMajor.symm n 1, ?_⟩
    have e : S64x2048.rowMajor.symm n = ix2 b (S64x2048.rowMajor.symm n 1) := by
      funext a
      match a with
      | ⟨0, _⟩ => exact Fin.ext ((hmem n).1 hn)
      | ⟨1, _⟩ => rfl
    exact Prod.ext ((congrArg tok e).trans (word_tokRow tok b _).symm) rfl
  have hpn : ∃ n ∈ l, ((tok (S64x2048.rowMajor.symm n), iotaInDim S64x2048 32 1 (S64x2048.rowMajor.symm n)) : Pair)
      = (word (tokRow tok b) p, BitVec.ofNat 32 p) := by
    refine ⟨S64x2048.rowMajor (ix2 b ⟨p, hp.1⟩), (hmem _).2 (by rw [Equiv.symm_apply_apply]), ?_⟩
    rw [Equiv.symm_apply_apply, ← word_tokRow tok b ⟨p, hp.1⟩]
    rfl
  obtain ⟨f1, -, f3⟩ := foldl_spec (fun n => ((tok (S64x2048.rowMajor.symm n), iotaInDim S64x2048 32 1 (S64x2048.rowMajor.symm n)) : Pair)) l
    (2147483648#32, 0#32)
  obtain ⟨n, hn, en⟩ := hpn
  have hb := f3 n hn
  have wlt : ∀ j, (word (tokRow tok b) j).toInt = (word (tokRow tok b) j).toNat := fun j => toInt_of_lt (by have := hr j; omega)
  change (l.foldl (fun r n => reducer_argmax_i32_i32 r (tok (S64x2048.rowMajor.symm n), iotaInDim S64x2048 32 1 (S64x2048.rowMajor.symm n)))
    (2147483648#32, 0#32)).2 = _
  simp only [en] at hb
  rcases f1 with f1 | ⟨k, hk, f1⟩
  · rw [f1] at hb
    exfalso
    have h0 : ((2147483648#32 : BitVec 32)).toInt = -2147483648 := by decide
    rcases hb with hb | ⟨hb, -⟩ <;> simp only [wlt, h0] at hb <;> omega
  · obtain ⟨q, eq⟩ := hval k hk
    simp only [eq] at f1
    rw [f1] at hb ⊢
    have hq := hp.2 q.val q.isLt
    have e : p = q.val := by
      rcases hb with hb | ⟨hb, hb'⟩
      · simp only [wlt] at hb; omega
      · simp only [wlt] at hb
        simp only [small_toInt q.isLt, small_toInt hp.1] at hb'
        omega
    rw [e]

end Cert.Proof.Argmax
-- ==== Proof.RefValue.lean ====
/-
  The reference's result for token ids of the vocabulary: row `b` is the embedding at the first position of row `b`'s largest token
  id, which is the pooled output.
-/
module

public import proofs.«01_k».proof.Proof.RefRun
public import proofs.«01_k».proof.Proof.FirstMax
public import proofs.«01_k».proof.Proof.Gen.Pre_vocabulary
public import Idealize.ShloMosaic.Lib.ReduceAll
public import Idealize.ShloMosaic.Lib.StableHlo.Predicate
public import Idealize.ShloMosaic.Lib.Pipeline.Value

@[expose] public section

noncomputable section

namespace Cert.Proof.RefRun

open Idealize.ShloMosaic
open Idealize.ShloMosaic.ValueIdx (ix1 ix2 ix3)
open Cert.ReferenceIdeal Cert.ReferenceIdeal.Gen
open Cert.Proof.Packed

variable {F : FTy → Type} [FloatOps F]

/-- Every row's token ids are in the vocabulary. -/
def AllVocab (tok : TokShape.Idx → BitVec 32) : Prop := ∀ b, InVocab (tokRow tok b)

/-- The stated precondition says just that. -/
theorem allVocab_of_pre (emb : FVec F S64x2048x768 .f32) (tok : IVec S64x2048 32)
    (h : Cert.Pre_vocabulary.fn (F := F) emb tok = fun _ => 1#1) : AllVocab tok := by
  haveI : Subsingleton Cert.Pre_vocabulary.S_.Idx := ⟨fun _ _ => funext fun a => a.elim0⟩
  intro b j
  unfold word
  split
  case isFalse => simp
  case isTrue hj =>
    have e := congrFun h (fun a => a.elim0)
    have h1 := Host.reduce_andi_all _ _ _ _ _ e (ix2 b ⟨j, hj⟩)
    obtain ⟨hge, hlt⟩ := IntOp.andi_eq_one.1 h1
    change BitVec.ofBool ((0#32).sle (tok (ix2 b ⟨j, hj⟩))) = 1#1 at hge
    change BitVec.ofBool ((tok (ix2 b ⟨j, hj⟩)).slt 49408#32) = 1#1 at hlt
    simp only [BitVec.sle, BitVec.slt, StableHlo.Predicate.ofBool_eq_one_iff, decide_eq_true_eq] at hge hlt
    rw [show (49408#32 : BitVec 32).toInt = 49408 by decide] at hlt
    rw [show (0#32 : BitVec 32).toInt = 0 by decide] at hge
    show (tok (ix2 b ⟨j, hj⟩)).toNat < 49408
    rw [BitVec.toInt_eq_toNat_cond] at hge hlt
    split at hge <;> omega

/-- Each start index is the position the kernel pools. -/
theorem col_eq (tok : IVec S64x2048 32) (hv : AllVocab tok) (y : S64x1x1.Idx) : col tok y = BitVec.ofNat 32 (pos tok (y 0)).val := by
  have e : col tok y = top tok (ix1 (y 0)) := by
    unfold col
    exact broadcastInDim_apply _ _ _ _ _ fun a => by match a with | ⟨0, _⟩ => rfl
  rw [e]
  exact Argmax.reduce_eq tok (y 0) (hv _) _ (posOf_best (hv _))

/-- A start index that is not negative stays. -/
theorem starts_of_nonneg (i : IVec S64x1x1 32) (y : S64x1x1.Idx) (h : IntOp.cmpi .slt (i y) 0#32 ≠ 1#1) : starts i y = i y := by
  unfold starts select
  exact if_neg h

/-- No start index is negative, so none is moved. -/
theorem starts_eq (tok : IVec S64x2048 32) (hv : AllVocab tok) : starts (col tok) = col tok := by
  funext y
  have hlt := (pos tok (y 0)).isLt
  have h : IntOp.cmpi .slt (col tok y) 0#32 ≠ 1#1 := by
    rw [col_eq tok hv, show (0#32 : BitVec 32) = BitVec.ofNat 32 0 from rfl]
    intro h
    exact absurd ((StableHlo.Predicate.slt_ofNat_iff _ 0 (by omega) (by omega)).1 h) (Nat.not_lt_zero _)
  exact starts_of_nonneg _ y h

/-- Every start index is inside the axis. -/
theorem inside_eq (tok : IVec S64x2048 32) (hv : AllVocab tok) (y : S64x1.Idx) : inside (col tok) y = 1#1 := by
  unfold inside
  refine Host.reduce_andi_one _ _ _ _ _ rfl fun i => ?_
  have hlt := (pos tok (i 0)).isLt
  show IntOp.andi (IntOp.cmpi .sge (col tok i) 0#32) (IntOp.cmpi .sle (col tok i) 2047#32) = 1#1
  rw [col_eq tok hv]
  refine IntOp.andi_eq_one.2 ⟨?_, ?_⟩
  · exact (StableHlo.Predicate.sle_ofNat_iff 0 _ (by omega) (by omega)).2 (Nat.zero_le _)
  · exact (StableHlo.Predicate.sle_ofNat_iff _ 2047 (by omega) (by omega)).2 (by omega)

/-- The gather read at `(b, 0, c)`: the operand's row `b`, at the start index read signed and clamped into the axis, column `c`. -/
theorem gather_apply (emb : FVec F S64x2048x768 .f32) (idx : IVec S64x1x1 32) (b : Fin 64) (c : Fin 768) :
    Host.gather gather_S64x2048x768_S64x1x1_S64x1x768_2_1_0_0_1_2_11768 emb idx (ix3 b (0 : Fin 1) c)
      = emb (ix3 b ⟨min (idx (ix3 b (0 : Fin 1) (0 : Fin 1))).toInt.toNat 2047, by omega⟩ c) := by
  unfold Host.gather
  congr 1
  funext a
  refine Fin.ext ?_
  show gather_S64x2048x768_S64x1x1_S64x1x768_2_1_0_0_1_2_11768.start (ix3 b (0 : Fin 1) c) idx a
      + gather_S64x2048x768_S64x1x1_S64x1x768_2_1_0_0_1_2_11768.batchCoord (ix3 b (0 : Fin 1) c) a
      + gather_S64x2048x768_S64x1x1_S64x1x768_2_1_0_0_1_2_11768.offCoord (ix3 b (0 : Fin 1) c) a = _
  have ha : a = 0 ∨ a = 1 ∨ a = 2 := by revert a; decide
  obtain rfl | rfl | rfl := ha
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    have hsi : ∀ k, gather_S64x2048x768_S64x1x1_S64x1x768_2_1_0_0_1_2_11768.siIdx (ix3 b (0 : Fin 1) c) k = ix3 b (0 : Fin 1) (0 : Fin 1) := by
      intro k
      funext x; refine Fin.ext ?_
      match x with
      | ⟨0, _⟩ => rfl
      | ⟨1, _⟩ => rfl
      | ⟨2, _⟩ => exact Nat.lt_one_iff.1 (Fin.isLt _)
    rw [hsi]
    rfl
  · rw [GatherDims.batchCoord_eq_zero _ _ _ (by decide)]
    unfold GatherDims.start GatherDims.offCoord
    rw [dif_neg (by decide), dif_pos (by decide)]
    simp only [Nat.zero_add, Nat.add_zero]
    rfl

/-- The reference's result at `(b, c)`: the embedding at the pooled position. -/
theorem out_apply (emb : FVec F S64x2048x768 .f32) (tok : IVec S64x2048 32) (hv : AllVocab tok) (b : Fin 64) (c : Fin 768) :
    out emb tok (ix2 b c) = emb (ix3 b (pos tok b) c) := by
  have hy : ((S64x1x768).rowMajor (ix3 b (0 : Fin 1) c)).val = (S64x768.rowMajor (ix2 b c)).val := by
    rw [Shape.rowMajor_val_three, Shape.rowMajor_val_two]
    show (b.val * 1 + 0) * 768 + c.val = b.val * 768 + c.val
    omega
  have h1 : out emb tok (ix2 b c) = taken emb (col tok) (ix3 b (0 : Fin 1) c) := shapeCast_apply _ _ _ _ hy
  rw [h1]
  unfold taken
  rw [starts_eq tok hv, show inside (col tok) = fun _ => 1#1 from funext (inside_eq tok hv)]
  show Host.gather gather_S64x2048x768_S64x1x1_S64x1x768_2_1_0_0_1_2_11768 emb (col tok) (ix3 b (0 : Fin 1) c) = _
  rw [gather_apply]
  have hp := (pos tok b).isLt
  have hc : (col tok (ix3 b (0 : Fin 1) (0 : Fin 1))).toInt = (pos tok b).val := by
    rw [col_eq tok hv]
    exact Argmax.small_toInt hp
  have e : (⟨min (col tok (ix3 b (0 : Fin 1) (0 : Fin 1))).toInt.toNat 2047, by omega⟩ : Fin 2048) = pos tok b := by
    refine Fin.ext ?_
    simp only [hc, Int.toNat_natCast]
    omega
  rw [e]

/-- THE REFERENCE'S RESULT is the pooled output. -/
theorem out_pooled (emb : FVec F S64x2048x768 .f32) (tok : IVec S64x2048 32) (hv : AllVocab tok) : out emb tok = pooled emb tok := by
  funext y
  rw [ValueIdx.eq_ix2 y]
  exact out_apply emb tok hv (y 0) (y 1)

end Cert.Proof.RefRun

end
-- ==== Proof.lean ====
/-
  The certificate's claim: the two kernel programs and the reference run, leave their arguments, and end with every semaphore at zero;
  and for token ids of the vocabulary the idealized kernel and the idealized reference end with equal results.
-/
module

public import proofs.«01_k».proof.Defs
public import proofs.«01_k».proof.Proof.KernelRun
public import proofs.«01_k».proof.Proof.IdealRun
public import proofs.«01_k».proof.Proof.RefValue

@[expose] public section

noncomputable section

namespace Cert.Proof

open Idealize.ShloMosaic Idealize.SL.Sem Cert.Proof.Packed

local instance factsKernel : Cert.Kernel.Facts := Cert.Kernel.Gen.facts
local instance factsKernelIdeal : Cert.KernelIdeal.Facts := Cert.KernelIdeal.Gen.facts
local instance factsReferenceIdeal : Cert.ReferenceIdeal.Facts := Cert.ReferenceIdeal.Gen.facts
local instance factsVocabulary : Cert.Pre_vocabulary.Facts := Cert.Pre_vocabulary.Gen.facts

/-- The kernel runs, leaves its arguments, and every semaphore ends at zero. -/
theorem frame_Kernel : Cert.quiescent_Kernel := fun m g _ =>
  (θ_run _ _ _).mono (fun _ h => ⟨fun c => ⟨(h.1 c).1, (h.1 c).2.1⟩, h.2⟩) (KernelRun.run_main (F := Bits) m g)

/-- The same of the idealized kernel. -/
theorem frame_KernelIdeal : Cert.quiescent_KernelIdeal := fun m g _ =>
  (θ_run _ _ _).mono (fun _ h => ⟨fun c => ⟨(h.1 c).1, (h.1 c).2.1⟩, h.2⟩) (IdealRun.run_main (F := Ideal) m g)

/-- The same of the idealized reference. -/
theorem frame_ReferenceIdeal : Cert.quiescent_ReferenceIdeal := fun m g _ =>
  (θ_run _ _ _).mono (fun _ h => ⟨fun c => ⟨(h.1 c).1, (h.1 c).2.1⟩, h.2⟩) (RefRun.run_main (F := Ideal) m g)

/-- For token ids of the vocabulary both end with the pooled output, read off the common arguments. -/
theorem algebraic : Cert.algebraic_KernelIdeal_ReferenceIdeal_pre_vocabulary := fun m g m' g' hpre hargs =>
  ⟨fun c => IdealRun.G m c,
    (θ_run _ _ _).mono (fun _ h c => ⟨(h.1 c).2.2, (h.1 c).1, (h.1 c).2.1⟩) (IdealRun.run_main (F := Ideal) m g),
    (θ_run _ _ _).mono (fun _ h c => ⟨(h.1 c).2.2.trans (by
        rw [(hargs c).1, (hargs c).2]
        exact RefRun.out_pooled _ _ (RefRun.allVocab_of_pre _ _ (hpre c))), (h.1 c).1, (h.1 c).2.1⟩)
      (RefRun.run_main (F := Ideal) m' g')⟩

/-- Everything the certificate claims. -/
theorem claim : Cert.Claim :=
  ⟨Cert.Kernel.Gen.facts, Cert.KernelIdeal.Gen.facts, Cert.ReferenceIdeal.Gen.facts, Cert.Pre_vocabulary.Gen.facts,
    frame_Kernel, frame_KernelIdeal, fun m g _ => frame_KernelIdeal m g trivial, frame_ReferenceIdeal, fun m g _ => frame_ReferenceIdeal m g trivial,
    trivial, algebraic⟩

end Cert.Proof

end
